-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_capacity_KernelIdeal [hPre_capacity_KernelIdeal : Cert.Pre_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_capacity_ReferenceIdeal [hPre_capacity_ReferenceIdeal : Cert.Pre_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_capacity_KernelIdeal [hKernelIdeal : Cert.KernelIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_capacity_ReferenceIdeal [hReferenceIdeal : Cert.ReferenceIdeal.Facts] [hPre_capacity_ReferenceIdeal : Cert.Pre_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_capacity_KernelIdeal [hKernelIdeal : Cert.KernelIdeal.Facts] [hReferenceIdeal : Cert.ReferenceIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_capacity_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1]⟩ ⟨2, ![8192, 1]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![32, 512, 1024]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![32, 1024, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_capacity_KernelIdeal : Cert.Pre_capacity_KernelIdeal.Facts) (hPre_capacity_ReferenceIdeal : Cert.Pre_capacity_ReferenceIdeal.Facts),
    quiescent_Kernel (hKernel := hKernel)
    ∧ quiescent_KernelIdeal (hKernelIdeal := hKernelIdeal)
    ∧ quiescent_KernelIdeal_pre_capacity_KernelIdeal (hKernelIdeal := hKernelIdeal) (hPre_capacity_KernelIdeal := hPre_capacity_KernelIdeal)
    ∧ quiescent_ReferenceIdeal (hReferenceIdeal := hReferenceIdeal)
    ∧ quiescent_ReferenceIdeal_pre_capacity_ReferenceIdeal (hReferenceIdeal := hReferenceIdeal) (hPre_capacity_ReferenceIdeal := hPre_capacity_ReferenceIdeal)
    ∧ preserves_Kernel_KernelIdeal
    ∧ algebraic_KernelIdeal_ReferenceIdeal_pre_capacity_KernelIdeal (hKernelIdeal := hKernelIdeal) (hReferenceIdeal := hReferenceIdeal) (hPre_capacity_KernelIdeal := hPre_capacity_KernelIdeal)
-- ==== Pre_capacity_KernelIdeal.lean ====
abbrev S512x512 : Shape := ⟨2, ![512, 512]⟩
abbrev S512x1 : Shape := ⟨2, ![512, 1]⟩
abbrev S2x512x1024 : Shape := ⟨3, ![2, 512, 1024]⟩
abbrev S2x1024x512 : Shape := ⟨3, ![2, 1024, 512]⟩
abbrev S32 : Shape := ⟨1, ![32]⟩
abbrev S1x32 : Shape := ⟨2, ![1, 32]⟩
abbrev S512x32 : Shape := ⟨2, ![512, 32]⟩
abbrev S_ : Shape := ⟨0, ![]⟩

class Facts : Prop where
  shapeCasts_S32_S1x32 : S32.ShapeCasts S1x32
  bcast_S512x1_S512x32_0_1 : S512x1.BroadcastsInDim S512x32 (![0, 1] : Fin 2 → Fin S512x32.rank)
  bcast_S1x32_S512x32_0_1 : S1x32.BroadcastsInDim S512x32 (![0, 1] : Fin 2 → Fin S512x32.rank)
  natLt_1_32 : 1 < 32
  reducesTo_S512x32_S32_d0 : S512x32.ReducesTo [0] S32
  h_S_ : 0 < S_.numel
  bcast_S_S512x1 : S_.BroadcastsInDim S512x1 (![] : Fin 0 → Fin S512x1.rank)
  reducesTo_S512x1_S_d0_1 : S512x1.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S512x512 .bf16) (main_arg1 : IVec S512x1 32) (main_arg2 : FVec F S2x512x1024 .bf16) (main_arg3 : FVec F S2x1024x512 .bf16) : IVec S_ 1 :=
  let main_v0 : IVec S32 32 := iotaInDim S32 32 0
  let main_v1 : IVec S1x32 32 := shapeCast S1x32 main_v0 shapeCasts_S32_S1x32
  let main_v2 : IVec S512x32 32 := broadcastInDim S512x32 ![0, 1] bcast_S512x1_S512x32_0_1 main_arg1
  let main_v3 : IVec S512x32 32 := broadcastInDim S512x32 ![0, 1] bcast_S1x32_S512x32_0_1 main_v1
  let main_v4 : IVec S512x32 1 := cmpi .eq main_v2 main_v3
  let main_v5 : IVec S512x32 32 := (extui 32 · natLt_1_32) main_v4
  let main_c : IVec S_ 32 := constantI S_ 32 0#32
  let main_v6 : IVec S32 32 := (fun x v => Host.reduce IntOp.addi x v reducesTo_S512x32_S32_d0 h_S_) main_v5 main_c
  let main_c_0 : IVec S_ 32 := constantI S_ 32 0#32
  let main_v7 : IVec S512x1 32 := broadcastInDim S512x1 ![] bcast_S_S512x1 main_c_0
  let main_v8 : IVec S512x1 1 := cmpi .sge main_arg1 main_v7
  let main_c_1 : IVec S_ 32 := constantI S_ 32 32#32
  let main_v9 : IVec S512x1 32 := broadcastInDim S512x1 ![] bcast_S_S512x1 main_c_1
  let main_v10 : IVec S512x1 1 := cmpi .slt main_arg1 main_v9
  let main_v11 : IVec S512x1 1 := andi main_v8 main_v10
  let main_c_2 : IVec S_ 1 := constantI S_ 1 1#1
  let main_v12 : IVec S_ 1 := (fun x v => Host.reduce IntOp.andi x v reducesTo_S512x1_S_d0_1 h_S_) main_v11 main_c_2
  let main_c_3 : IVec S_ 32 := constantI S_ 32 32#32
  let main_v13 : IVec S32 32 := broadcastInDim S32 ![] bcast_S_S32 main_c_3
  let main_v14 : IVec S32 1 := cmpi .sle main_v6 main_v13
  let main_c_4 : IVec S_ 1 := constantI S_ 1 1#1
  let main_v15 : IVec S_ 1 := (fun x v => Host.reduce IntOp.andi x v reducesTo_S32_S_d0 h_S_) main_v14 main_c_4
  let main_v16 : IVec S_ 1 := andi main_v12 main_v15
  main_v16
-- ==== Pre_capacity_ReferenceIdeal.lean ====
abbrev S8192x512 : Shape := ⟨2, ![8192, 512]⟩
abbrev S8192x1 : Shape := ⟨2, ![8192, 1]⟩
abbrev S32x512x1024 : Shape := ⟨3, ![32, 512, 1024]⟩
abbrev S32x1024x512 : Shape := ⟨3, ![32, 1024, 512]⟩
abbrev S32 : Shape := ⟨1, ![32]⟩
abbrev S1x32 : Shape := ⟨2, ![1, 32]⟩
abbrev S8192x32 : Shape := ⟨2, ![8192, 32]⟩
abbrev S_ : Shape := ⟨0, ![]⟩

class Facts : Prop where
  shapeCasts_S32_S1x32 : S32.ShapeCasts S1x32
  bcast_S8192x1_S8192x32_0_1 : S8192x1.BroadcastsInDim S8192x32 (![0, 1] : Fin 2 → Fin S8192x32.rank)
  bcast_S1x32_S8192x32_0_1 : S1x32.BroadcastsInDim S8192x32 (![0, 1] : Fin 2 → Fin S8192x32.rank)
  natLt_1_32 : 1 < 32
  reducesTo_S8192x32_S32_d0 : S8192x32.ReducesTo [0] S32
  h_S_ : 0 < S_.numel
  bcast_S_S8192x1 : S_.BroadcastsInDim S8192x1 (![] : Fin 0 → Fin S8192x1.rank)
  reducesTo_S8192x1_S_d0_1 : S8192x1.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S8192x512 .bf16) (main_arg1 : IVec S8192x1 32) (main_arg2 : FVec F S32x512x1024 .bf16) (main_arg3 : FVec F S32x1024x512 .bf16) : IVec S_ 1 :=
  let main_v0 : IVec S32 32 := iotaInDim S32 32 0
  let main_v1 : IVec S1x32 32 := shapeCast S1x32 main_v0 shapeCasts_S32_S1x32
  let main_v2 : IVec S8192x32 32 := broadcastInDim S8192x32 ![0, 1] bcast_S8192x1_S8192x32_0_1 main_arg1
  let main_v3 : IVec S8192x32 32 := broadcastInDim S8192x32 ![0, 1] bcast_S1x32_S8192x32_0_1 main_v1
  let main_v4 : IVec S8192x32 1 := cmpi .eq main_v2 main_v3
  let main_v5 : IVec S8192x32 32 := (extui 32 · natLt_1_32) main_v4
  let main_c : IVec S_ 32 := constantI S_ 32 0#32
  let main_v6 : IVec S32 32 := (fun x v => Host.reduce IntOp.addi x v reducesTo_S8192x32_S32_d0 h_S_) main_v5 main_c
  let main_c_0 : IVec S_ 32 := constantI S_ 32 0#32
  let main_v7 : IVec S8192x1 32 := broadcastInDim S8192x1 ![] bcast_S_S8192x1 main_c_0
  let main_v8 : IVec S8192x1 1 := cmpi .sge main_arg1 main_v7
  let main_c_1 : IVec S_ 32 := constantI S_ 32 32#32
  let main_v9 : IVec S8192x1 32 := broadcastInDim S8192x1 ![] bcast_S_S8192x1 main_c_1
  let main_v10 : IVec S8192x1 1 := cmpi .slt main_arg1 main_v9
  let main_v11 : IVec S8192x1 1 := andi main_v8 main_v10
  let main_c_2 : IVec S_ 1 := constantI S_ 1 1#1
  let main_v12 : IVec S_ 1 := (fun x v => Host.reduce IntOp.andi x v reducesTo_S8192x1_S_d0_1 h_S_) main_v11 main_c_2
  let main_c_3 : IVec S_ 32 := constantI S_ 32 32#32
  let main_v13 : IVec S32 32 := broadcastInDim S32 ![] bcast_S_S32 main_c_3
  let main_v14 : IVec S32 1 := cmpi .sle main_v6 main_v13
  let main_c_4 : IVec S_ 1 := constantI S_ 1 1#1
  let main_v15 : IVec S_ 1 := (fun x v => Host.reduce IntOp.andi x v reducesTo_S32_S_d0 h_S_) main_v14 main_c_4
  let main_v16 : IVec S_ 1 := andi main_v12 main_v15
  main_v16
-- ==== Kernel.lean ====
abbrev S512x512 : Shape := ⟨2, ![512, 512]⟩
abbrev S512x1 : Shape := ⟨2, ![512, 1]⟩
abbrev S2x512x1024 : Shape := ⟨3, ![2, 512, 1024]⟩
abbrev S2x1024x512 : Shape := ⟨3, ![2, 1024, 512]⟩
abbrev S16x64x512 : Shape := ⟨3, ![16, 64, 512]⟩
abbrev S16 : Shape := ⟨1, ![16]⟩
abbrev S_ : Shape := ⟨0, ![]⟩
abbrev S512x128 : Shape := ⟨2, ![512, 128]⟩
abbrev S512 : Shape := ⟨1, ![512]⟩
abbrev S512x1024 : Shape := ⟨2, ![512, 1024]⟩
abbrev S1024x512 : Shape := ⟨2, ![1024, 512]⟩
abbrev S1x64x512 : Shape := ⟨3, ![1, 64, 512]⟩
abbrev S64x512 : Shape := ⟨2, ![64, 512]⟩
abbrev S1 : Shape := ⟨1, ![1]⟩
abbrev S16x32x512 : Shape := ⟨3, ![16, 32, 512]⟩
abbrev S1x512x1024 : Shape := ⟨3, ![1, 512, 1024]⟩
abbrev S1x1024x512 : Shape := ⟨3, ![1, 1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x512, .bf16⟩
  | .hbm, ⟨1, _⟩ => ⟨S512x1, .i32⟩
  | .hbm, ⟨2, _⟩ => ⟨S2x512x1024, .bf16⟩
  | .hbm, ⟨3, _⟩ => ⟨S2x1024x512, .bf16⟩
  | .hbm, ⟨4, _⟩ => ⟨S512x512, .f32⟩
  | .local _ .vmem, ⟨0, _⟩ => ⟨S512x512, .bf16⟩
  | .local _ .vmem, ⟨1, _⟩ => ⟨S512x1, .i32⟩
  | .local _ .vmem, ⟨2, _⟩ => ⟨S2x512x1024, .bf16⟩
  | .local _ .vmem, ⟨3, _⟩ => ⟨S2x1024x512, .bf16⟩
  | .local _ .vmem, ⟨4, _⟩ => ⟨S512x512, .f32⟩
  | .local _ .vmem, ⟨5, _⟩ => ⟨S16x64x512, .bf16⟩
  | .local _ .vmem, ⟨6, _⟩ => ⟨S16x64x512, .bf16⟩
  | .local _ .vmem, ⟨7, _⟩ => ⟨S16x64x512, .bf16⟩
  | .local _ .vmem, ⟨8, _⟩ => ⟨S16x64x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_75 : BitVec 32 := 0#32
  let c0_i32_76 : BitVec 32 := 0#32
  ![v2.toNat, 0, 0]
def k0_off2 (d0 : Dev nD) (c1_i32_79 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v113 : BitVec 32 := Scalar.addi v2 c1_i32_79
  let c16_i32_80 : BitVec 32 := 16#32
  let v114 : BitVec 32 := Scalar.remsi v113 c16_i32_80
  let c0_i32_87 : BitVec 32 := 0#32
  let c0_i32_88 : BitVec 32 := 0#32
  ![v114.toNat, 0, 0]
def k0_dev16 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_79 : BitVec 32 := 1#32
  let v113 : BitVec 32 := Scalar.addi v2 c1_i32_79
  let c16_i32_80 : BitVec 32 := 16#32
  let v114 : BitVec 32 := Scalar.remsi v113 c16_i32_80
  let c1_i32_83 : BitVec 32 := 1#32
  let v115 : BitVec 32 := Scalar.muli v114 c1_i32_83
  let v116 : BitVec 32 := Scalar.addi c0_i32_84 v115
  v116.toNat
def k0_dev17 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_89 : BitVec 32 := 2#32
  let v125 : BitVec 32 := Scalar.addi v2 c2_i32_89
  let c16_i32_90 : BitVec 32 := 16#32
  let v126 : BitVec 32 := Scalar.remsi v125 c16_i32_90
  let c1_i32_93 : BitVec 32 := 1#32
  let v127 : BitVec 32 := Scalar.muli v126 c1_i32_93
  let v128 : BitVec 32 := Scalar.addi c0_i32_94 v127
  v128.toNat
def k0_dev18 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_99 : BitVec 32 := 3#32
  let v137 : BitVec 32 := Scalar.addi v2 c3_i32_99
  let c16_i32_100 : BitVec 32 := 16#32
  let v138 : BitVec 32 := Scalar.remsi v137 c16_i32_100
  let c1_i32_103 : BitVec 32 := 1#32
  let v139 : BitVec 32 := Scalar.muli v138 c1_i32_103
  let v140 : BitVec 32 := Scalar.addi c0_i32_104 v139
  v140.toNat
def k0_dev19 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_109 : BitVec 32 := 4#32
  let v149 : BitVec 32 := Scalar.addi v2 c4_i32_109
  let c16_i32_110 : BitVec 32 := 16#32
  let v150 : BitVec 32 := Scalar.remsi v149 c16_i32_110
  let c1_i32_113 : BitVec 32 := 1#32
  let v151 : BitVec 32 := Scalar.muli v150 c1_i32_113
  let v152 : BitVec 32 := Scalar.addi c0_i32_114 v151
  v152.toNat
def k0_dev20 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_119 : BitVec 32 := 5#32
  let v161 : BitVec 32 := Scalar.addi v2 c5_i32_119
  let c16_i32_120 : BitVec 32 := 16#32
  let v162 : BitVec 32 := Scalar.remsi v161 c16_i32_120
  let c1_i32_123 : BitVec 32 := 1#32
  let v163 : BitVec 32 := Scalar.muli v162 c1_i32_123
  let v164 : BitVec 32 := Scalar.addi c0_i32_124 v163
  v164.toNat
def k0_dev21 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_129 : BitVec 32 := 6#32
  let v173 : BitVec 32 := Scalar.addi v2 c6_i32_129
  let c16_i32_130 : BitVec 32 := 16#32
  let v174 : BitVec 32 := Scalar.remsi v173 c16_i32_130
  let c1_i32_133 : BitVec 32 := 1#32
  let v175 : BitVec 32 := Scalar.muli v174 c1_i32_133
  let v176 : BitVec 32 := Scalar.addi c0_i32_134 v175
  v176.toNat
def k0_dev22 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_139 : BitVec 32 := 7#32
  let v185 : BitVec 32 := Scalar.addi v2 c7_i32_139
  let c16_i32_140 : BitVec 32 := 16#32
  let v186 : BitVec 32 := Scalar.remsi v185 c16_i32_140
  let c1_i32_143 : BitVec 32 := 1#32
  let v187 : BitVec 32 := Scalar.muli v186 c1_i32_143
  let v188 : BitVec 32 := Scalar.addi c0_i32_144 v187
  v188.toNat
def k0_dev23 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_149 : BitVec 32 := 8#32
  let v197 : BitVec 32 := Scalar.addi v2 c8_i32_149
  let c16_i32_150 : BitVec 32 := 16#32
  let v198 : BitVec 32 := Scalar.remsi v197 c16_i32_150
  let c1_i32_153 : BitVec 32 := 1#32
  let v199 : BitVec 32 := Scalar.muli v198 c1_i32_153
  let v200 : BitVec 32 := Scalar.addi c0_i32_154 v199
  v200.toNat
def k0_dev24 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_159 : BitVec 32 := 9#32
  let v209 : BitVec 32 := Scalar.addi v2 c9_i32_159
  let c16_i32_160 : BitVec 32 := 16#32
  let v210 : BitVec 32 := Scalar.remsi v209 c16_i32_160
  let c1_i32_163 : BitVec 32 := 1#32
  let v211 : BitVec 32 := Scalar.muli v210 c1_i32_163
  let v212 : BitVec 32 := Scalar.addi c0_i32_164 v211
  v212.toNat
def k0_dev25 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_169 : BitVec 32 := 10#32
  let v221 : BitVec 32 := Scalar.addi v2 c10_i32_169
  let c16_i32_170 : BitVec 32 := 16#32
  let v222 : BitVec 32 := Scalar.remsi v221 c16_i32_170
  let c1_i32_173 : BitVec 32 := 1#32
  let v223 : BitVec 32 := Scalar.muli v222 c1_i32_173
  let v224 : BitVec 32 := Scalar.addi c0_i32_174 v223
  v224.toNat
def k0_dev26 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_179 : BitVec 32 := 11#32
  let v233 : BitVec 32 := Scalar.addi v2 c11_i32_179
  let c16_i32_180 : BitVec 32 := 16#32
  let v234 : BitVec 32 := Scalar.remsi v233 c16_i32_180
  let c1_i32_183 : BitVec 32 := 1#32
  let v235 : BitVec 32 := Scalar.muli v234 c1_i32_183
  let v236 : BitVec 32 := Scalar.addi c0_i32_184 v235
  v236.toNat
def k0_dev27 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_189 : BitVec 32 := 12#32
  let v245 : BitVec 32 := Scalar.addi v2 c12_i32_189
  let c16_i32_190 : BitVec 32 := 16#32
  let v246 : BitVec 32 := Scalar.remsi v245 c16_i32_190
  let c1_i32_193 : BitVec 32 := 1#32
  let v247 : BitVec 32 := Scalar.muli v246 c1_i32_193
  let v248 : BitVec 32 := Scalar.addi c0_i32_194 v247
  v248.toNat
def k0_dev28 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_199 : BitVec 32 := 13#32
  let v257 : BitVec 32 := Scalar.addi v2 c13_i32_199
  let c16_i32_200 : BitVec 32 := 16#32
  let v258 : BitVec 32 := Scalar.remsi v257 c16_i32_200
  let c1_i32_203 : BitVec 32 := 1#32
  let v259 : BitVec 32 := Scalar.muli v258 c1_i32_203
  let v260 : BitVec 32 := Scalar.addi c0_i32_204 v259
  v260.toNat
def k0_dev29 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_209 : BitVec 32 := 14#32
  let v269 : BitVec 32 := Scalar.addi v2 c14_i32_209
  let c16_i32_210 : BitVec 32 := 16#32
  let v270 : BitVec 32 := Scalar.remsi v269 c16_i32_210
  let c1_i32_213 : BitVec 32 := 1#32
  let v271 : BitVec 32 := Scalar.muli v270 c1_i32_213
  let v272 : BitVec 32 := Scalar.addi c0_i32_214 v271
  v272.toNat
def k0_dev30 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_219 : BitVec 32 := 15#32
  let v281 : BitVec 32 := Scalar.addi v2 c15_i32_219
  let c16_i32_220 : BitVec 32 := 16#32
  let v282 : BitVec 32 := Scalar.remsi v281 c16_i32_220
  let c1_i32_223 : BitVec 32 := 1#32
  let v283 : BitVec 32 := Scalar.muli v282 c1_i32_223
  let v284 : BitVec 32 := Scalar.addi c0_i32_224 v283
  v284.toNat
def k0_dev31 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_485 : BitVec 32 := 1#32
  let v542 : BitVec 32 := Scalar.addi v2 c1_i32_485
  let c16_i32_486 : BitVec 32 := 16#32
  let v543 : BitVec 32 := Scalar.remsi v542 c16_i32_486
  let c1_i32_489 : BitVec 32 := 1#32
  let v544 : BitVec 32 := Scalar.muli v543 c1_i32_489
  let v545 : BitVec 32 := Scalar.addi c0_i32_490 v544
  v545.toNat
def k0_dev32 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_495 : BitVec 32 := 2#32
  let v554 : BitVec 32 := Scalar.addi v2 c2_i32_495
  let c16_i32_496 : BitVec 32 := 16#32
  let v555 : BitVec 32 := Scalar.remsi v554 c16_i32_496
  let c1_i32_499 : BitVec 32 := 1#32
  let v556 : BitVec 32 := Scalar.muli v555 c1_i32_499
  let v557 : BitVec 32 := Scalar.addi c0_i32_500 v556
  v557.toNat
def k0_dev33 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_505 : BitVec 32 := 3#32
  let v566 : BitVec 32 := Scalar.addi v2 c3_i32_505
  let c16_i32_506 : BitVec 32 := 16#32
  let v567 : BitVec 32 := Scalar.remsi v566 c16_i32_506
  let c1_i32_509 : BitVec 32 := 1#32
  let v568 : BitVec 32 := Scalar.muli v567 c1_i32_509
  let v569 : BitVec 32 := Scalar.addi c0_i32_510 v568
  v569.toNat
def k0_dev34 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_515 : BitVec 32 := 4#32
  let v578 : BitVec 32 := Scalar.addi v2 c4_i32_515
  let c16_i32_516 : BitVec 32 := 16#32
  let v579 : BitVec 32 := Scalar.remsi v578 c16_i32_516
  let c1_i32_519 : BitVec 32 := 1#32
  let v580 : BitVec 32 := Scalar.muli v579 c1_i32_519
  let v581 : BitVec 32 := Scalar.addi c0_i32_520 v580
  v581.toNat
def k0_dev35 (d0 : Dev nD) : Nat :=
  let c0_i32_530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_525 : BitVec 32 := 5#32
  let v590 : BitVec 32 := Scalar.addi v2 c5_i32_525
  let c16_i32_526 : BitVec 32 := 16#32
  let v591 : BitVec 32 := Scalar.remsi v590 c16_i32_526
  let c1_i32_529 : BitVec 32 := 1#32
  let v592 : BitVec 32 := Scalar.muli v591 c1_i32_529
  let v593 : BitVec 32 := Scalar.addi c0_i32_530 v592
  v593.toNat
def k0_dev36 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_535 : BitVec 32 := 6#32
  let v602 : BitVec 32 := Scalar.addi v2 c6_i32_535
  let c16_i32_536 : BitVec 32 := 16#32
  let v603 : BitVec 32 := Scalar.remsi v602 c16_i32_536
  let c1_i32_539 : BitVec 32 := 1#32
  let v604 : BitVec 32 := Scalar.muli v603 c1_i32_539
  let v605 : BitVec 32 := Scalar.addi c0_i32_540 v604
  v605.toNat
def k0_dev37 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_545 : BitVec 32 := 7#32
  let v614 : BitVec 32 := Scalar.addi v2 c7_i32_545
  let c16_i32_546 : BitVec 32 := 16#32
  let v615 : BitVec 32 := Scalar.remsi v614 c16_i32_546
  let c1_i32_549 : BitVec 32 := 1#32
  let v616 : BitVec 32 := Scalar.muli v615 c1_i32_549
  let v617 : BitVec 32 := Scalar.addi c0_i32_550 v616
  v617.toNat
def k0_dev38 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_555 : BitVec 32 := 8#32
  let v626 : BitVec 32 := Scalar.addi v2 c8_i32_555
  let c16_i32_556 : BitVec 32 := 16#32
  let v627 : BitVec 32 := Scalar.remsi v626 c16_i32_556
  let c1_i32_559 : BitVec 32 := 1#32
  let v628 : BitVec 32 := Scalar.muli v627 c1_i32_559
  let v629 : BitVec 32 := Scalar.addi c0_i32_560 v628
  v629.toNat
def k0_dev39 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_565 : BitVec 32 := 9#32
  let v638 : BitVec 32 := Scalar.addi v2 c9_i32_565
  let c16_i32_566 : BitVec 32 := 16#32
  let v639 : BitVec 32 := Scalar.remsi v638 c16_i32_566
  let c1_i32_569 : BitVec 32 := 1#32
  let v640 : BitVec 32 := Scalar.muli v639 c1_i32_569
  let v641 : BitVec 32 := Scalar.addi c0_i32_570 v640
  v641.toNat
def k0_dev40 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_575 : BitVec 32 := 10#32
  let v650 : BitVec 32 := Scalar.addi v2 c10_i32_575
  let c16_i32_576 : BitVec 32 := 16#32
  let v651 : BitVec 32 := Scalar.remsi v650 c16_i32_576
  let c1_i32_579 : BitVec 32 := 1#32
  let v652 : BitVec 32 := Scalar.muli v651 c1_i32_579
  let v653 : BitVec 32 := Scalar.addi c0_i32_580 v652
  v653.toNat
def k0_dev41 (d0 : Dev nD) : Nat :=
  let c0_i32_590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_585 : BitVec 32 := 11#32
  let v662 : BitVec 32 := Scalar.addi v2 c11_i32_585
  let c16_i32_586 : BitVec 32 := 16#32
  let v663 : BitVec 32 := Scalar.remsi v662 c16_i32_586
  let c1_i32_589 : BitVec 32 := 1#32
  let v664 : BitVec 32 := Scalar.muli v663 c1_i32_589
  let v665 : BitVec 32 := Scalar.addi c0_i32_590 v664
  v665.toNat
def k0_dev42 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_595 : BitVec 32 := 12#32
  let v674 : BitVec 32 := Scalar.addi v2 c12_i32_595
  let c16_i32_596 : BitVec 32 := 16#32
  let v675 : BitVec 32 := Scalar.remsi v674 c16_i32_596
  let c1_i32_599 : BitVec 32 := 1#32
  let v676 : BitVec 32 := Scalar.muli v675 c1_i32_599
  let v677 : BitVec 32 := Scalar.addi c0_i32_600 v676
  v677.toNat
def k0_dev43 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_605 : BitVec 32 := 13#32
  let v686 : BitVec 32 := Scalar.addi v2 c13_i32_605
  let c16_i32_606 : BitVec 32 := 16#32
  let v687 : BitVec 32 := Scalar.remsi v686 c16_i32_606
  let c1_i32_609 : BitVec 32 := 1#32
  let v688 : BitVec 32 := Scalar.muli v687 c1_i32_609
  let v689 : BitVec 32 := Scalar.addi c0_i32_610 v688
  v689.toNat
def k0_dev44 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_615 : BitVec 32 := 14#32
  let v698 : BitVec 32 := Scalar.addi v2 c14_i32_615
  let c16_i32_616 : BitVec 32 := 16#32
  let v699 : BitVec 32 := Scalar.remsi v698 c16_i32_616
  let c1_i32_619 : BitVec 32 := 1#32
  let v700 : BitVec 32 := Scalar.muli v699 c1_i32_619
  let v701 : BitVec 32 := Scalar.addi c0_i32_620 v700
  v701.toNat
def k0_dev45 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_625 : BitVec 32 := 15#32
  let v710 : BitVec 32 := Scalar.addi v2 c15_i32_625
  let c16_i32_626 : BitVec 32 := 16#32
  let v711 : BitVec 32 := Scalar.remsi v710 c16_i32_626
  let c1_i32_629 : BitVec 32 := 1#32
  let v712 : BitVec 32 := Scalar.muli v711 c1_i32_629
  let v713 : BitVec 32 := Scalar.addi c0_i32_630 v712
  v713.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x512 : Shape := ⟨2, ![8192, 512]⟩
abbrev S8192x1 : Shape := ⟨2, ![8192, 1]⟩
abbrev S32x512x1024 : Shape := ⟨3, ![32, 512, 1024]⟩
abbrev S32x1024x512 : Shape := ⟨3, ![32, 1024, 512]⟩
abbrev S32x1024x8192 : Shape := ⟨3, ![32, 1024, 8192]⟩
abbrev S32x8192x1024 : Shape := ⟨3, ![32, 8192, 1024]⟩
abbrev S_ : Shape := ⟨0, ![]⟩
abbrev S32x8192x512 : Shape := ⟨3, ![32, 8192, 512]⟩
abbrev S1x8192x1 : Shape := ⟨3, ![1, 8192, 1]⟩
abbrev S32 : Shape := ⟨1, ![32]⟩
abbrev S32x1x1 : Shape := ⟨3, ![32, 1, 1]⟩
abbrev S32x8192x1 : Shape := ⟨3, ![32, 8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1, .i32⟩
  | .hbm, ⟨2, _⟩ => ⟨S32x512x1024, .bf16⟩
  | .hbm, ⟨3, _⟩ => ⟨S32x1024x512, .bf16⟩
  | .hbm, ⟨4, _⟩ => ⟨S32x1024x8192, .f32⟩
  | .hbm, ⟨5, _⟩ => ⟨S32x8192x1024, .f32⟩
  | .hbm, ⟨6, _⟩ => ⟨S_, .f32⟩
  | .hbm, ⟨7, _⟩ => ⟨S32x8192x1024, .f32⟩
  | .hbm, ⟨8, _⟩ => ⟨S32x8192x1024, .f32⟩
  | .hbm, ⟨9, _⟩ => ⟨S32x8192x1024, .bf16⟩
  | .hbm, ⟨10, _⟩ => ⟨S32x8192x512, .f32⟩
  | .hbm, ⟨11, _⟩ => ⟨S1x8192x1, .i32⟩
  | .hbm, ⟨12, _⟩ => ⟨S32, .i32⟩
  | .hbm, ⟨13, _⟩ => ⟨S32x1x1, .i32⟩
  | .hbm, ⟨14, _⟩ => ⟨S32x8192x1, .i32⟩
  | .hbm, ⟨15, _⟩ => ⟨S32x8192x1, .i32⟩
  | .hbm, ⟨16, _⟩ => ⟨S32x8192x1, .i1⟩
  | .hbm, ⟨17, _⟩ => ⟨S_, .f32⟩
  | .hbm, ⟨18, _⟩ => ⟨S_, .f32⟩
  | .hbm, ⟨19, _⟩ => ⟨S32x8192x512, .i1⟩
  | .hbm, ⟨20, _⟩ => ⟨S32x8192x512, .f32⟩
  | .hbm, ⟨21, _⟩ => ⟨S32x8192x512, .f32⟩
  | .hbm, ⟨22, _⟩ => ⟨S_, .f32⟩
  | .hbm, ⟨23, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Proof.KernelIdealCells.lean ====
/-
# 01_k — the cells, the slots and the schedule of the two exchanges (KernelIdeal)

Sixteen devices, `c`, `c + 1`, …: `nx c o` is the device `o` places after `c`, `pv c o` the one `o` places before it.
The kernel exchanges twice, in phase 0 (tokens to the experts' devices) and in phase 1 (results back). In phase `p`
device `c` copies, for every offset `o = 1..15`, slot `nx c o` of its source buffer into slot `c` of the destination
buffer of device `nx c o`, and its own slot by a local transfer.

For each semaphore, who waits, who pays, how much, and what is handed over:

* the barrier cell of `c` (the runtime's semaphore): `c` waits once, for 15. Each other device `nx c d` pays one unit,
  as duty `d`, and hands over slot `c` of its two destination buffers, into which `c` will copy.
* the send cell `o` of phase `p` on `c`: `c` itself pays and waits, the credit of one slot; its source slot comes back.
* the receive cell `o` of phase `p` on `c`: device `pv c o` pays, `c` waits; `c` gets slot `pv c o` of its destination
  buffer, holding slot `c` of what `pv c o` sent.
* the local cell of `c`: two rounds, one per phase; `c` pays and waits; both slots come back, the destination's filled.
* the cells with index 0 of the four arrays are never used.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices and offsets -/

set_option backward.proofsInPublic true in
/-- The device `o` places after `c`. -/
def nx (c : Dev nD) (o : Fin 16) : Dev nD := ⟨(c.val + o.val) % 16, Nat.mod_lt _ (by decide)⟩
set_option backward.proofsInPublic true in
/-- The device `o` places before `c`. -/
def pv (c : Dev nD) (o : Fin 16) : Dev nD := ⟨(c.val + (16 - o.val)) % 16, Nat.mod_lt _ (by decide)⟩
set_option backward.proofsInPublic true in
/-- The offset that undoes `o`. -/
def ng (o : Fin 16) : Fin 16 := ⟨(16 - o.val) % 16, Nat.mod_lt _ (by decide)⟩

theorem pv_nx : ∀ (c : Dev nD) (o : Fin 16), pv (nx c o) o = c := by decide +kernel
theorem nx_pv : ∀ (c : Dev nD) (o : Fin 16), nx (pv c o) o = c := by decide +kernel
theorem nx_nx_ng : ∀ (c : Dev nD) (o : Fin 16), nx (nx c o) (ng o) = c := by decide +kernel
theorem nx_ng_nx : ∀ (c : Dev nD) (o : Fin 16), nx (nx c (ng o)) o = c := by decide +kernel
theorem ng_ng : ∀ o : Fin 16, ng (ng o) = o := by decide
theorem nx_zero : ∀ c : Dev nD, nx c 0 = c := by decide +kernel
theorem pv_zero : ∀ c : Dev nD, pv c 0 = c := by decide +kernel
theorem nx_inj : ∀ (c : Dev nD) (o o' : Fin 16), nx c o = nx c o' → o = o' := by decide +kernel
theorem ng_pos : ∀ o : Fin 16, 1 ≤ o.val → 1 ≤ (ng o).val := by decide

/-- All devices, by their offset from `c` on; and by their offset back from `c`. -/
def nxE (c : Dev nD) : Fin 16 ≃ Dev nD :=
  Equiv.ofBijective (nx c) ((Fintype.bijective_iff_injective_and_card _).mpr ⟨fun _ _ => nx_inj c _ _, by decide⟩)
def pvE (c : Dev nD) : Fin 16 ≃ Dev nD :=
  Equiv.ofBijective (pv c) ((Fintype.bijective_iff_injective_and_card _).mpr ⟨fun o o' => by revert c o o'; decide +kernel, by decide⟩)
/-- At a fixed offset, all devices by the device they come from. -/
def shE (o : Fin 16) : Dev nD ≃ Dev nD := ⟨fun c => nx c o, fun c => pv c o, fun c => pv_nx c o, fun c => nx_pv c o⟩
def ngE : Fin 16 ≃ Fin 16 := ⟨ng, ng, ng_ng, ng_ng⟩

/-- The offsets still to do before offset `k` is done, and those done. -/
def ge (k : ℕ) : Finset (Fin 16) := Finset.univ.filter fun o => k ≤ o.val
def lt (k : ℕ) : Finset (Fin 16) := Finset.univ.filter fun o => 1 ≤ o.val ∧ o.val < k

theorem mem_ge {k : ℕ} {o : Fin 16} : o ∈ ge k ↔ k ≤ o.val := by simp [ge]
theorem mem_lt {k : ℕ} {o : Fin 16} : o ∈ lt k ↔ 1 ≤ o.val ∧ o.val < k := by simp [lt]
theorem ge_step (o : Fin 16) : ge o.val = insert o (ge (o.val + 1)) := by
  ext x; rw [mem_ge, Finset.mem_insert, mem_ge, Fin.ext_iff]; omega
theorem not_mem_ge (o : Fin 16) : o ∉ ge (o.val + 1) := by rw [mem_ge]; omega
theorem lt_step (o : Fin 16) (h : 1 ≤ o.val) : lt (o.val + 1) = insert o (lt o.val) := by
  ext x; rw [mem_lt, Finset.mem_insert, mem_lt, Fin.ext_iff]; omega
theorem not_mem_lt (o : Fin 16) : o ∉ lt o.val := by rw [mem_lt]; omega
theorem lt_one : lt 1 = ∅ := by decide
theorem lt_all : lt 16 = ge 1 := by decide
theorem ge_all : ge 16 = ∅ := by decide
theorem univ_split : (Finset.univ : Finset (Fin 16)) = insert 0 (ge 1) := by decide
theorem ng_ge : (ge 1).map ngE.toEmbedding = ge 1 := by decide

section Big
variable {M : Type} [URA M]

/-- The next offset taken off those still to do; put with those done; the offset 0 apart from the others. -/
theorem big_ge (o : Fin 16) (Φ : Fin 16 → sProp M) : bigSep (ge o.val) Φ = iprop(Φ o ∗ bigSep (ge (o.val + 1)) Φ) := by
  rw [ge_step]; exact bigSep_insert (not_mem_ge o)
theorem big_lt (o : Fin 16) (h : 1 ≤ o.val) (Φ : Fin 16 → sProp M) : bigSep (lt (o.val + 1)) Φ = iprop(Φ o ∗ bigSep (lt o.val) Φ) := by
  rw [lt_step o h]; exact bigSep_insert (not_mem_lt o)
theorem big_zero (Φ : Fin 16 → sProp M) : bigSep Finset.univ Φ = iprop(Φ 0 ∗ bigSep (ge 1) Φ) := by
  rw [univ_split]; exact bigSep_insert (by decide)
theorem big_ng (Φ : Fin 16 → sProp M) : bigSep (ge 1) (fun o => Φ (ng o)) = bigSep (ge 1) Φ := by
  conv_rhs => rw [← ng_ge, bigSep_map]
  rfl

end Big

/-! ## The semaphores -/

/-- The runtime's barrier semaphore, the `o`-th semaphore of the kernel's `a`-th array (send and receive of phase 0, send
    and receive of phase 1), and the semaphore of the local transfers. -/
abbrev barS : Sem sig := (SemArray.scalar (sig.barrier 0 rfl) : Sems sig S_).sem
set_option backward.proofsInPublic true in
def xq (a : Fin 4) (o : Fin 16) : DmaSem sig := ⟨5 + 16 * a.val + o.val, show _ < 70 by have := a.isLt; have := o.isLt; omega⟩
set_option backward.proofsInPublic true in
def locq : DmaSem sig := ⟨69, show 69 < 70 by decide⟩

theorem xq_val (a : Fin 4) (o : Fin 16) : (xq a o).val = 5 + 16 * a.val + o.val := rfl
theorem locq_val : locq.val = 69 := rfl

abbrev barCell (c : Dev nD) : GSem nD τ sig := ((c : Thread nD τ), .reg barS)
abbrev xcell (a : Fin 4) (o : Fin 16) (c : Dev nD) : GSem nD τ sig := ((c : Thread nD τ), .dma (xq a o))
abbrev locCell (c : Dev nD) : GSem nD τ sig := ((c : Thread nD τ), .dma locq)

/-- The send and the receive array of a phase. -/
def sA (p : Fin 2) : Fin 4 := if p = 0 then 0 else 2
def rA (p : Fin 2) : Fin 4 := if p = 0 then 1 else 3

/-- A device's own semaphores, as the launch takes them; and with the barrier, as this proof indexes them. -/
abbrev KI : Type := (Fin 4 × Fin 16) ⊕ Unit
abbrev CI : Type := KI ⊕ Unit
def osem : KI → SemLoc sig | .inl (a, o) => .dma (xq a o) | .inr () => .dma locq
def csem : CI → SemLoc sig | .inl k => osem k | .inr () => .reg barS
abbrev kcell (ck : Dev nD × CI) : GSem nD τ sig := ((ck.1 : Thread nD τ), csem ck.2)
abbrev xI (a : Fin 4) (o : Fin 16) : CI := .inl (.inl (a, o))
abbrev locI : CI := .inl (.inr ())
abbrev barI : CI := .inr ()

/-! ## The slots -/

/-- The source and the destination buffer of a phase. -/
def sM (p : Fin 2) : Memref sig .tc .vmem S16x64x512 .bf16 := if p = 0 then Memref.whole cc0_scratch0 else Memref.whole cc0_scratch2
def dM (p : Fin 2) : Memref sig .tc .vmem S16x64x512 .bf16 := if p = 0 then Memref.whole cc0_scratch1 else Memref.whole cc0_scratch3

theorem slot_inb (j : Dev nD) : ∀ a, (![j.val, 0, 0] : Fin 3 → ℕ) a + S1x64x512.size a ≤ S16x64x512.size a := by
  revert j; decide

abbrev slotR (j : Dev nD) : Rect S16x64x512 := Rect.unit (s := S16x64x512) ![j.val, 0, 0] S1x64x512.size (slot_inb j)

/-- Slot `j` of a buffer of sixteen slots. -/
abbrev slotM (b : Memref sig .tc .vmem S16x64x512 .bf16) (j : Dev nD) : Memref sig .tc .vmem S64x512 .bf16 :=
  (b.slice (slotR j) (fun _ => rfl)).squeeze S64x512 squeezes_S1x64x512_S64x512

/-- A slot named by its offset vector. -/
theorem slot_eq (b : Memref sig .tc .vmem S16x64x512 .bf16) {off : Fin 3 → ℕ} {j : Dev nD}
    (inb : ∀ a, off a + S1x64x512.size a ≤ S16x64x512.size a) (hu) (h : off = ![j.val, 0, 0]) :
    (b.slice (Rect.unit (s := S16x64x512) off S1x64x512.size inb) hu).squeeze S64x512 squeezes_S1x64x512_S64x512 = slotM b j := by
  subst h; rfl

/-- The place in the buffer of place `x` of slot `j`. -/
def slotIx (j : Dev nD) (x : S64x512.Idx) : S16x64x512.Idx := (slotR j).emb (Shape.reshapeEquiv squeezes_S1x64x512_S64x512.numel_eq x)
/-- Slot `j` of a buffer's contents. -/
def slotOf {A : Type} (X : S16x64x512.Idx → A) (j : Dev nD) : S64x512.Idx → A := fun x => X (slotIx j x)

/-- The credit of one slot. -/
abbrev N : ℕ := (slotM (Memref.whole cc0_scratch0) 0).view.dmaCredit
theorem N_pos : 0 < N := View.dmaCredit_pos _ (by decide)

theorem credit_s : ∀ (p : Fin 2) (j : Dev nD), (slotM (sM p) j).view.dmaCredit = N := by
  intro p j; fin_cases p <;> rfl
theorem credit_d : ∀ (p : Fin 2) (j : Dev nD), (slotM (dM p) j).view.dmaCredit = N := by
  intro p j; fin_cases p <;> rfl

theorem slot_disj (j j' : Dev nD) (h : j ≠ j') : Disjoint (slotR j).set (slotR j').set := by
  rw [Finset.disjoint_left]
  intro i hi hi'
  rw [Rect.mem_set_unit] at hi hi'
  have h0 := hi 0; have h1 := hi' 0
  simp at h0 h1
  exact h (Fin.ext (by omega))

theorem slot_cover : (Finset.univ : Finset (Dev nD)).biUnion (fun j => (slotR j).set) = Finset.univ := by
  ext i
  simp only [Finset.mem_biUnion, Finset.mem_univ, true_and, iff_true]
  refine ⟨⟨(i 0).val, (i 0).isLt⟩, ?_⟩
  rw [Rect.mem_set_unit]
  intro a
  have := (i a).isLt
  fin_cases a
  · exact ⟨le_rfl, Nat.lt_succ_self _⟩
  · exact ⟨Nat.zero_le _, by simpa using this⟩
  · exact ⟨Nat.zero_le _, by simpa using this⟩

/-- A device owns a memref, at contents not named. -/
def ownE (c : Dev nD) {s : Shape} (b : Memref sig .tc .vmem s .bf16) : sProp 𝕄 :=
  iprop(∃ X : s.Idx → Elt F .bf16, owns (c : Thread nD τ) b fullShare X)

instance ownE_storable (c : Dev nD) {s : Shape} (b : Memref sig .tc .vmem s .bf16) : BI.Storable (upEmb : UEmb _ 𝕄) (ownE (F := F) c b) := by
  unfold ownE; infer_instance

omit [FloatOps F] in
theorem owns_ownE (c : Dev nD) {s : Shape} (b : Memref sig .tc .vmem s .bf16) (X : s.Idx → Elt F .bf16) :
    (owns (c : Thread nD τ) b fullShare X : sProp 𝕄) ⊢ ownE c b := by
  unfold ownE; iintro H; iexists X; iexact H

omit [FloatOps F] in
/-- Owning a memref under another shape with as many elements. -/
theorem owns_squeeze (c : Dev nD) {s s' : Shape} (b : Memref sig .tc .vmem s .bf16) (h : s.Squeezes s') (X : s.Idx → Elt F .bf16) :
    (owns (c : Thread nD τ) (b.squeeze s' h) fullShare (fun x => X (Shape.reshapeEquiv h.numel_eq x)) : sProp 𝕄) = owns (c : Thread nD τ) b fullShare X := by
  unfold owns
  have hr (f : b.view.ty.Contents (Elt F)) : (b.squeeze s' h).view.read (Elt F) f = (fun x => b.view.read (Elt F) f (Shape.reshapeEquiv h.numel_eq x)) := rfl
  have he (f : b.view.ty.Contents (Elt F)) :
      ((b.squeeze s' h).view.read (Elt F) f = fun x => X (Shape.reshapeEquiv h.numel_eq x)) ↔ b.view.read (Elt F) f = X := by
    rw [hr]
    constructor
    · intro e; funext y
      obtain ⟨x, rfl⟩ := (Shape.reshapeEquiv h.numel_eq).surjective y
      exact congrFun e x
    · intro e; rw [e]
  have hs : (b.squeeze s' h).view.set = b.view.set := View.set_reshape _ _
  refine congrArg BIBase.exists (funext fun f => ?_)
  rw [hs, propext (he f)]

omit [FloatOps F] in
/-- A buffer owned whole is its sixteen slots owned, each at its part of the contents; and back. -/
theorem owns_slots (c : Dev nD) (b : Memref sig .tc .vmem S16x64x512 .bf16) (X : S16x64x512.Idx → Elt F .bf16) :
    (owns (c : Thread nD τ) b fullShare X : sProp 𝕄) ⊢ bigSep Finset.univ fun j => owns (c : Thread nD τ) (slotM b j) fullShare (slotOf X j) := by
  refine (owns_rects (c : Thread nD τ) b fullShare slotR (fun _ _ => rfl) slot_disj slot_cover X).trans ?_
  refine (Entails.of_eq (bigSep_congr fun j _ => ?_))
  exact (owns_squeeze c (b.slice (slotR j) (fun _ => rfl)) squeezes_S1x64x512_S64x512 (fun y => X ((slotR j).emb y))).symm

omit [FloatOps F] in
theorem slots_owns [∀ e, Nonempty (Elt F e)] (c : Dev nD) (b : Memref sig .tc .vmem S16x64x512 .bf16) (X : S16x64x512.Idx → Elt F .bf16) :
    (bigSep Finset.univ fun j => owns (c : Thread nD τ) (slotM b j) fullShare (slotOf X j)) ⊢ (owns (c : Thread nD τ) b fullShare X : sProp 𝕄) := by
  refine BI.Entails.trans ?_ (owns_of_rects (c : Thread nD τ) b fullShare slotR (fun _ _ => rfl) slot_disj slot_cover X)
  refine (Entails.of_eq (bigSep_congr fun j _ => ?_))
  exact owns_squeeze c (b.slice (slotR j) (fun _ => rfl)) squeezes_S1x64x512_S64x512 (fun y => X ((slotR j).emb y))

omit [FloatOps F] in
theorem ownE_slots (c : Dev nD) (b : Memref sig .tc .vmem S16x64x512 .bf16) (X : S16x64x512.Idx → Elt F .bf16) :
    (owns (c : Thread nD τ) b fullShare X : sProp 𝕄) ⊢ bigSep Finset.univ fun j => ownE c (slotM b j) := by
  refine (owns_slots c b X).trans (bigSep_mono fun j _ => owns_ownE c (slotM b j) (slotOf X j))

/-! ## What a destination holds after the exchange -/

/-- What a device holds once every device has sent its slots of `s`: slot `d` is device `d`'s slot for it. -/
def recvX {A : Type} (s : Dev nD → S16x64x512.Idx → A) (c : Dev nD) : S16x64x512.Idx → A :=
  fun i => s ⟨(i 0).val, (i 0).isLt⟩ (Function.update i 0 ⟨c.val, c.isLt⟩)

theorem slotIx_zero (j : Dev nD) (x : S64x512.Idx) : (slotIx j x 0).val = j.val := by
  have h : (slotIx j x) ∈ (slotR j).set := by
    unfold slotIx; rw [← Rect.map_emb_univ]; exact Finset.mem_map_of_mem _ (Finset.mem_univ _)
  rw [Rect.mem_set_unit] at h
  have := h 0
  simp at this
  omega

theorem slotIx_succ (j j' : Dev nD) (x : S64x512.Idx) (a : Fin 3) (h : a ≠ 0) : (slotIx j x a).val = (slotIx j' x a).val := by
  unfold slotIx
  rw [Rect.emb_apply, Rect.emb_apply]
  fin_cases a
  · exact absurd rfl h
  · rfl
  · rfl

theorem slotOf_recvX {A : Type} (s : Dev nD → S16x64x512.Idx → A) (c d : Dev nD) : slotOf (recvX s c) d = slotOf (s d) c := by
  funext x
  unfold slotOf recvX
  have h1 : (⟨(slotIx d x 0).val, (slotIx d x 0).isLt⟩ : Dev nD) = d := Fin.ext (slotIx_zero d x)
  rw [h1]
  congr 1
  funext a
  by_cases ha : a = 0
  · subst ha; rw [Function.update_self]; exact Fin.ext (slotIx_zero c x).symm
  · rw [Function.update_of_ne ha]; exact Fin.ext (slotIx_succ d c x a ha)

/-! ## The schedule -/

set_option backward.proofsInPublic true in
/-- Which cell a semaphore is, if any. -/
def dec : SemLoc sig → Option CI
  | .reg s => if s = barS then some barI else none
  | .dma q => if q = locq then some locI
      else if h : 5 ≤ q.val ∧ q.val < 69 then some (xI ⟨(q.val - 5) / 16, by omega⟩ ⟨(q.val - 5) % 16, by omega⟩) else none

theorem dec_csem : ∀ k : CI, dec (csem k) = some k := by decide +kernel
theorem dec_stage : ∀ q : DmaSem sig, q.val < 5 → dec (.dma q) = none := by decide +kernel
theorem csem_inj : Function.Injective csem := fun k k' h => Option.some.inj (by rw [← dec_csem, h, dec_csem])

/-- What moves: for each phase and device, the contents of the device's source buffer. -/
abbrev Sent (F : FTy → Type) : Type := Fin 2 → Dev nD → S16x64x512.Idx → Elt F .bf16

section Pay

variable (sv : Sent F)

def sendPay (p : Fin 2) (o : Fin 16) (c : Dev nD) : sProp 𝕄 :=
  owns (c : Thread nD τ) (slotM (sM p) (nx c o)) fullShare (slotOf (sv p c) (nx c o))
def recvPay (p : Fin 2) (o : Fin 16) (c : Dev nD) : sProp 𝕄 :=
  owns (c : Thread nD τ) (slotM (dM p) (pv c o)) fullShare (slotOf (sv p (pv c o)) c)
def locPay (p : Fin 2) (c : Dev nD) : sProp 𝕄 :=
  iprop(owns (c : Thread nD τ) (slotM (sM p) c) fullShare (slotOf (sv p c) c) ∗ owns (c : Thread nD τ) (slotM (dM p) c) fullShare (slotOf (sv p c) c))
def barPay (c : Dev nD) (d : Fin 16) : sProp 𝕄 :=
  iprop(ownE (nx c d) (slotM (dM 0) c) ∗ ownE (nx c d) (slotM (dM 1) c))

instance (p o c) : BI.Storable (upEmb : UEmb _ 𝕄) (sendPay sv p o c) := by unfold sendPay; infer_instance
instance (p o c) : BI.Storable (upEmb : UEmb _ 𝕄) (recvPay sv p o c) := by unfold recvPay; infer_instance
instance (p c) : BI.Storable (upEmb : UEmb _ 𝕄) (locPay sv p c) := by unfold locPay; infer_instance
instance (c d) : BI.Storable (upEmb : UEmb _ 𝕄) (barPay (F := F) c d) := by unfold barPay; infer_instance

def dutiesOf : Option CI → ℕ → Finset (Fin 16)
  | some (.inr _), r => if r = 0 then ge 1 else ∅
  | some (.inl (.inr _)), r => if r < 2 then {0} else ∅
  | some (.inl (.inl (_, o))), r => if r = 0 ∧ 1 ≤ o.val then {0} else ∅
  | none, _ => ∅

def amountOfC : Option CI → ℕ
  | some (.inr _) => 1
  | _ => N

def payOf : Option CI → ℕ → Fin 16 → Dev nD → sProp 𝕄
  | some (.inr _), _, d, c => barPay c d
  | some (.inl (.inr _)), r, _, c => if r = 0 then locPay sv 0 c else locPay sv 1 c
  | some (.inl (.inl (a, o))), _, _, c =>
      if a = 0 then sendPay sv 0 o c else if a = 1 then recvPay sv 0 o c else if a = 2 then sendPay sv 1 o c else recvPay sv 1 o c
  | none, _, _, _ => iprop(emp)

instance payOf_storable (k r d c) : BI.Storable (upEmb : UEmb _ 𝕄) (payOf sv k r d c) := by
  rcases k with _ | ((⟨a, o⟩ | _) | _) <;> unfold payOf <;> dsimp only <;> (repeat' split) <;> infer_instance

/-- The schedule of the module's heading. -/
def rd : Rounds.Schedule (GSem nD τ sig) (Fin 16) 𝕄 where
  duties g r := if g.1.2 = .tc then dutiesOf (dec g.2) r else ∅
  unitless _ := False
  amount g _ _ := amountOfC (dec g.2)
  payload g r d := payOf sv (dec g.2) r d g.1.1
  amount_pos g _ _ _ := by
    rcases dec g.2 with _ | ((⟨a, o⟩ | _) | _)
    · exact N_pos
    · exact N_pos
    · exact N_pos
    · exact Nat.one_pos

instance rd_payload_storable (g : GSem nD τ sig) (r : ℕ) (d : Fin 16) : BI.Storable (upEmb : UEmb _ 𝕄) ((rd sv).payload g r d) :=
  payOf_storable sv _ _ _ _

omit [FloatOps F] in
theorem duties_k (c : Dev nD) (k : CI) (r : ℕ) : (rd sv).duties (kcell (c, k)) r = dutiesOf (some k) r := by
  dsimp only [rd]; rw [if_pos rfl, dec_csem]
omit [FloatOps F] in
theorem amount_k (c : Dev nD) (k : CI) (r : ℕ) (d : Fin 16) : (rd sv).amount (kcell (c, k)) r d = amountOfC (some k) := by
  dsimp only [rd]; rw [dec_csem]
omit [FloatOps F] in
theorem payload_k (c : Dev nD) (k : CI) (r : ℕ) (d : Fin 16) : (rd sv).payload (kcell (c, k)) r d = payOf sv (some k) r d c := by
  dsimp only [rd]; rw [dec_csem]

omit [FloatOps F] in
theorem duties_later (g : GSem nD τ sig) : ∀ r, 2 ≤ r → (rd sv).duties g r = ∅ := by
  intro r hr; dsimp only [rd]
  split
  · rcases dec g.2 with _ | ((⟨a, o⟩ | _) | _) <;> dsimp only [dutiesOf] <;> first | rfl | (rw [if_neg (by omega)])
  · rfl

omit [FloatOps F] in
/-- A barrier cell and a cell of the arrays are done after round 0. -/
theorem duties_one (c : Dev nD) (k : CI) (h : k ≠ locI) : ∀ r, 1 ≤ r → (rd sv).duties (kcell (c, k)) r = ∅ := by
  intro r hr; rw [duties_k]
  rcases k with (⟨a, o⟩ | _) | _
  · dsimp only [dutiesOf]; rw [if_neg (by omega)]
  · exact absurd rfl h
  · dsimp only [dutiesOf]; rw [if_neg (by omega)]

omit [FloatOps F] in
theorem duties_x0 (c : Dev nD) (a : Fin 4) : ∀ r, 0 ≤ r → (rd sv).duties (kcell (c, xI a 0)) r = ∅ := by
  intro r _; rw [duties_k]; exact if_neg (fun h => absurd h.2 (by decide))

omit [FloatOps F] in
theorem duties_x (c : Dev nD) (a : Fin 4) (o : Fin 16) (h : 1 ≤ o.val) : (rd sv).duties (xcell a o c) 0 = {0} :=
  (duties_k sv c (xI a o) 0).trans (if_pos ⟨rfl, h⟩)
omit [FloatOps F] in
theorem duties_bar (c : Dev nD) : (rd sv).duties (barCell c) 0 = ge 1 := (duties_k sv c barI 0).trans rfl
omit [FloatOps F] in
theorem duties_loc (c : Dev nD) (p : Fin 2) : (rd sv).duties (locCell c) p.val = {0} := (duties_k sv c locI p.val).trans (if_pos p.isLt)
omit [FloatOps F] in
theorem amount_x (c : Dev nD) (a : Fin 4) (o : Fin 16) (r d) : (rd sv).amount (xcell a o c) r d = N := amount_k sv c (xI a o) r d
omit [FloatOps F] in
theorem amount_loc (c : Dev nD) (r d) : (rd sv).amount (locCell c) r d = N := amount_k sv c locI r d
omit [FloatOps F] in
theorem amount_bar (c : Dev nD) (r d) : (rd sv).amount (barCell c) r d = 1 := amount_k sv c barI r d
omit [FloatOps F] in
theorem payload_bar (c : Dev nD) (r d) : (rd sv).payload (barCell c) r d = barPay c d := payload_k sv c barI r d
omit [FloatOps F] in
theorem payload_loc (c : Dev nD) (p : Fin 2) (d) : (rd sv).payload (locCell c) p.val d = locPay sv p c := by
  refine (payload_k sv c locI p.val d).trans ?_
  fin_cases p <;> rfl
omit [FloatOps F] in
theorem payload_s (c : Dev nD) (p : Fin 2) (o : Fin 16) (r d) : (rd sv).payload (xcell (sA p) o c) r d = sendPay sv p o c := by
  refine (payload_k sv c (xI (sA p) o) r d).trans ?_
  fin_cases p <;> rfl
omit [FloatOps F] in
theorem payload_r (c : Dev nD) (p : Fin 2) (o : Fin 16) (r d) : (rd sv).payload (xcell (rA p) o c) r d = recvPay sv p o c := by
  refine (payload_k sv c (xI (rA p) o) r d).trans ?_
  fin_cases p <;> rfl

omit [FloatOps F] in
theorem expect_x (c : Dev nD) (a : Fin 4) (o : Fin 16) (h : 1 ≤ o.val) : (rd sv).expect (xcell a o c) 0 = N := by
  unfold Schedule.expect Schedule.amountOf; rw [duties_x sv c a o h, Finset.sum_singleton, amount_x]
omit [FloatOps F] in
theorem expect_loc (c : Dev nD) (p : Fin 2) : (rd sv).expect (locCell c) p.val = N := by
  unfold Schedule.expect Schedule.amountOf; rw [duties_loc, Finset.sum_singleton, amount_loc]
omit [FloatOps F] in
theorem expect_bar (c : Dev nD) : (rd sv).expect (barCell c) 0 = 15 := by
  unfold Schedule.expect Schedule.amountOf
  rw [duties_bar, Finset.sum_congr rfl fun d _ => amount_bar sv c 0 d, Finset.sum_const, smul_eq_mul]; decide

omit [FloatOps F] in
theorem rest_bar (c : Dev nD) : bigSep ((rd sv).duties (barCell c) 0 \ ∅) (fun d => (rd sv).payload (barCell c) 0 d) = bigSep (ge 1) (barPay (F := F) c) := by
  rw [Finset.sdiff_empty, duties_bar]; exact bigSep_congr fun d _ => payload_bar sv c 0 d
omit [FloatOps F] in
theorem rest_loc (c : Dev nD) (p : Fin 2) : bigSep ((rd sv).duties (locCell c) p.val \ ∅) (fun d => (rd sv).payload (locCell c) p.val d) = locPay sv p c := by
  rw [Finset.sdiff_empty, duties_loc, bigSep_singleton, payload_loc]
omit [FloatOps F] in
theorem rest_s (c : Dev nD) (p : Fin 2) (o : Fin 16) (h : 1 ≤ o.val) :
    bigSep ((rd sv).duties (xcell (sA p) o c) 0 \ ∅) (fun d => (rd sv).payload (xcell (sA p) o c) 0 d) = sendPay sv p o c := by
  rw [Finset.sdiff_empty, duties_x sv c _ o h, bigSep_singleton, payload_s]
omit [FloatOps F] in
theorem rest_r (c : Dev nD) (p : Fin 2) (o : Fin 16) (h : 1 ≤ o.val) :
    bigSep ((rd sv).duties (xcell (rA p) o c) 0 \ ∅) (fun d => (rd sv).payload (xcell (rA p) o c) 0 d) = recvPay sv p o c := by
  rw [Finset.sdiff_empty, duties_x sv c _ o h, bigSep_singleton, payload_r]

end Pay

/-! ## What each device owes; the levels -/

/-- The signals device `c` still owes from offset `k` on, and the transfers of phase `p`. -/
def debB (k : ℕ) (c : Dev nD) : CellTallies nD τ sig Unit := ∑ o ∈ ge k, tallyAt (barCell (nx c o)) () 1
def debR (p : Fin 2) (k : ℕ) (c : Dev nD) : CellTallies nD τ sig Unit := ∑ o ∈ ge k, tallyAt (xcell (rA p) o (nx c o)) () N

theorem debB_step (o : Fin 16) (c : Dev nD) : debB o.val c = debB (o.val + 1) c + tallyAt (barCell (nx c o)) () 1 := by
  unfold debB; rw [ge_step, Finset.sum_insert (not_mem_ge o), add_comm]
theorem debR_step (p : Fin 2) (o : Fin 16) (c : Dev nD) : debR p o.val c = debR p (o.val + 1) c + tallyAt (xcell (rA p) o (nx c o)) () N := by
  unfold debR; rw [ge_step, Finset.sum_insert (not_mem_ge o), add_comm]
theorem debB_all (c : Dev nD) : debB 16 c = 0 := by unfold debB; rw [ge_all, Finset.sum_empty]
theorem debR_all (p : Fin 2) (c : Dev nD) : debR p 16 c = 0 := by unfold debR; rw [ge_all, Finset.sum_empty]

/-- What remains owed for phase 1 while phase `p` runs. -/
def ext (p : Fin 2) (c : Dev nD) : CellTallies nD τ sig Unit := if p = 0 then debR 1 1 c else 0
def O₀ (c : Dev nD) : CellTallies nD τ sig Unit := debB 1 c + (ext 0 c + debR 0 1 c)

def L (g : GSem nD τ sig) : Finset Unit := if g.1.2 = .tc then {()} else ∅
def lvOf : Option CI → ℕ
  | some (.inr _) => 1
  | some (.inl (.inl (a, _))) => if a = 1 then 2 else if a = 3 then 3 else 0
  | _ => 0
/-- Barrier cells at 1, receive cells of phase 0 at 2, of phase 1 at 3, everything else at 0. -/
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : CI) : lv (kcell (c, k)) () = lvOf (some k) := by unfold lv; rw [dec_csem]

/-- Everything owed in `O` is owed at cells of level above `n`. -/
def Above (n : ℕ) (O : CellTallies nD τ sig Unit) : Prop := ∀ g u, 0 < O g u → g.1.2 = .tc ∧ n < lv g ()

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with e | e
  · exact h' g u (by omega)
  · exact h g u e
theorem above_tally {n : ℕ} (c : Dev nD) (k : CI) (v : ℕ) (h : n < lvOf (some k)) : Above n (tallyAt (kcell (c, k)) () v) := by
  intro g u hg
  rw [tallyAt_apply] at hg
  by_cases e : g = kcell (c, k) ∧ u = ()
  · rw [e.1]; exact ⟨rfl, by rw [lv_k]; exact h⟩
  · rw [if_neg e] at hg; exact absurd hg (Nat.lt_irrefl 0)
theorem above_sum {n : ℕ} (S : Finset (Fin 16)) (f : Fin 16 → CellTallies nD τ sig Unit) (h : ∀ o, Above n (f o)) : Above n (∑ o ∈ S, f o) := by
  induction S using Finset.induction_on with
  | empty => rw [Finset.sum_empty]; exact above_zero n
  | insert o S ho ih => rw [Finset.sum_insert ho]; exact above_add (h o) ih

theorem above_debB (k : ℕ) (c : Dev nD) : Above 0 (debB k c) := above_sum _ _ fun o => above_tally (nx c o) barI 1 (by decide)
theorem above_debR (p : Fin 2) (n : ℕ) (hn : n ≤ 1) (k : ℕ) (c : Dev nD) : Above n (debR p k c) :=
  above_sum _ _ fun o => above_tally (nx c o) (xI (rA p) o) N (by
    show n < lvOf (some (.inl (.inl (rA p, o))))
    fin_cases p <;> dsimp only [lvOf, rA] <;> simp <;> omega)
theorem above_ext (p : Fin 2) (n : ℕ) (hn : n ≤ 2) (c : Dev nD) : Above n (ext p c) := by
  unfold ext
  split
  · exact above_sum _ _ fun o => above_tally (nx c o) (xI 3 o) N (by show n < 3; omega)
  · exact above_zero n

omit [FloatOps F] in
/-- A device may wait at a cell of level at most `n` while all it owes is above `n`. -/
theorem mayWait_above (c : Dev nD) (sm : SemLoc sig) (n : ℕ) (hn : lvOf (dec sm) ≤ n) {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdealProof

end
-- ==== Proof.KernelIdealSteps.lean ====
/-
# 01_k — one rule per operation of the exchange (KernelIdeal)

For each operation a device performs on a semaphore — a signal, the barrier wait, a local transfer and its wait, a send,
the wait on a send cell, the wait on a receive cell — what the device holds before and after it. Each rule is an
entailment that leaves whatever else is held (`R`) alone, so a part of the kernel is a chain of them.
-/
module

public import proofs.«01_k».proof.Proof.KernelIdealCells

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a piece of device `c`'s program. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

variable (sv : Sent F) (K : Dev nD × CI → ℕ)

/-! ## What is held -/

/-- What every device may use at any time: the cells' invariants, that every cell is at round 0 at least, the levels. -/
def recs : sProp 𝕄 :=
  iprop((bigSep Finset.univ fun ck => cellInv ER (rd sv) (K ck) (kcell ck)) ∗ (bigSep Finset.univ fun ck => reached ER (kcell ck) 0) ∗ levAts L lv)

instance recs_persistent : BI.Persistent (recs sv K) := by
  unfold recs
  have : BI.Persistent (bigSep Finset.univ fun ck => cellInv ER (rd sv) (K ck) (kcell ck) : sProp 𝕄) := by infer_instance
  have : BI.Persistent (bigSep Finset.univ fun ck => reached ER (kcell ck) 0 : sProp 𝕄) := by infer_instance
  infer_instance

omit [FloatOps F] in
theorem recs_inv (c : Dev nD) (k : CI) : recs sv K ⊢ cellInv ER (rd sv) (K (c, k)) (kcell (c, k)) := by
  unfold recs; iintro ⟨H, -⟩
  iapply (show (bigSep Finset.univ fun ck => cellInv ER (rd sv) (K ck) (kcell ck)) ⊢ _ from bigSep_elim (Finset.mem_univ (c, k))); iexact H
omit [FloatOps F] in
theorem recs_reached (c : Dev nD) (k : CI) : recs sv K ⊢ reached ER (kcell (c, k)) 0 := by
  unfold recs; iintro ⟨-, H, -⟩
  iapply (show (bigSep Finset.univ fun ck => reached ER (kcell ck) 0) ⊢ _ from bigSep_elim (Finset.mem_univ (c, k))); iexact H
omit [FloatOps F] in
theorem recs_wait (c : Dev nD) (sm : SemLoc sig) {O : CellTallies nD τ sig Unit} (h : (levAts L lv : sProp 𝕄) ⊢ MayWait (c : Thread nD τ) sm () O) :
    recs sv K ⊢ MayWait (c : Thread nD τ) sm () O := by
  refine BIBase.Entails.trans ?_ h
  unfold recs; iintro ⟨-, -, H⟩; iexact H

def owing (c : Dev nD) (O : CellTallies nD τ sig Unit) : sProp 𝕄 := iprop(∃ W, owes (c : Thread nD τ) O W)

/-- Before the signal at offset `k`: the barrier tokens and own slots that remain to be handed over. -/
def SigSt (k : ℕ) (c : Dev nD) : sProp 𝕄 :=
  iprop(recs sv K ∗ owing c (debB k c + (ext 0 c + debR 0 1 c))
    ∗ bigSep (ge k) fun o => iprop(dutyTok ER (barCell (nx c o)) 0 (ng o) ∗ ownE c (slotM (dM 0) (nx c o)) ∗ ownE c (slotM (dM 1) (nx c o))))

/-- What the send at offset `o` of phase `p` takes: the filled source slot, the slot it lands in, the tokens of both cells. -/
def sendRes (p : Fin 2) (o : Fin 16) (c : Dev nD) : sProp 𝕄 :=
  iprop(sendPay sv p o c ∗ ownE (nx c o) (slotM (dM p) c) ∗ dutyTok ER (xcell (sA p) o c) 0 0 ∗ dutyTok ER (xcell (rA p) o (nx c o)) 0 0)

/-- Before the send at offset `k` of phase `p`. -/
def SendSt (p : Fin 2) (k : ℕ) (c : Dev nD) : sProp 𝕄 :=
  iprop(recs sv K ∗ owing c (ext p c + debR p k c) ∗ (bigSep (ge k) fun o => sendRes sv p o c)
    ∗ bigSep (lt k) fun o => cred (tallyAt (xcell (sA p) o c) () N))

/-- Before the waits at offset `ks` of the send cells and `kr` of the receive cells of phase `p`. -/
def WaitSt (p : Fin 2) (ks kr : ℕ) (c : Dev nD) : sProp 𝕄 :=
  iprop(recs sv K ∗ owing c (ext p c)
    ∗ (bigSep (ge ks) fun o => iprop(cred (tallyAt (xcell (sA p) o c) () N) ∗ atPos ER (xcell (sA p) o c) 0 ∅ 0))
    ∗ (bigSep (ge kr) fun o => iprop(cred (tallyAt (xcell (rA p) o c) () N) ∗ atPos ER (xcell (rA p) o c) 0 ∅ 0))
    ∗ (bigSep (lt ks) fun o => iprop(atPos ER (xcell (sA p) o c) 1 ∅ 0 ∗ sendPay sv p o c))
    ∗ (bigSep (lt kr) fun o => iprop(atPos ER (xcell (rA p) o c) 1 ∅ 0 ∗ recvPay sv p o c)))

/-- What the local transfer of phase `p` takes; while it is under way; what its wait returns. -/
def LocS (p : Fin 2) (c : Dev nD) : sProp 𝕄 :=
  iprop(owns (c : Thread nD τ) (slotM (sM p) c) fullShare (slotOf (sv p c) c) ∗ ownE c (slotM (dM p) c)
    ∗ dutyTok ER (locCell c) p.val 0 ∗ reached ER (locCell c) p.val ∗ atPos ER (locCell c) p.val ∅ 0)
def LocW (p : Fin 2) (c : Dev nD) : sProp 𝕄 := iprop(cred (tallyAt (locCell c) () N) ∗ atPos ER (locCell c) p.val ∅ 0)
def LocD (p : Fin 2) (c : Dev nD) : sProp 𝕄 :=
  iprop(atPos ER (locCell c) (p.val + 1) ∅ 0 ∗ reached ER (locCell c) (p.val + 1) ∗ locPay sv p c)

omit [FloatOps F] in
/-- At a receive cell of phase `p` a device may wait: what it still owes then is above it. -/
theorem mayWait_ext (c : Dev nD) (p : Fin 2) (o : Fin 16) :
    (levAts L lv : sProp 𝕄) ⊢ MayWait (c : Thread nD τ) (.dma (xq (rA p) o)) () (ext p c) := by
  by_cases hp : p = 0
  · subst hp
    exact mayWait_above c (.dma (xq (rA 0) o)) 2 (by rw [show dec (.dma (xq (rA 0) o)) = some (xI (rA 0) o) from dec_csem (xI (rA 0) o)]; exact le_rfl)
      (above_ext 0 2 le_rfl c)
  · unfold ext; rw [if_neg hp]
    exact mayWait_above c (.dma (xq (rA p) o)) 3 (by
      rw [show dec (.dma (xq (rA p) o)) = some (xI (rA p) o) from dec_csem (xI (rA p) o)]; fin_cases p
      · exact absurd rfl hp
      · exact le_rfl) (above_zero 3)

/-! ## The rules -/

section Steps

variable {sv K}
variable {c : Dev nD} {α : Type} {R : sProp (MT nD τ sig Unit (Elt F) ℕ UU ℕ)}
variable {k : PUnit → Prog (TpuEff nD τ sig (Elt F) Λ₀ .tc) α} {Q : α → sProp (MT nD τ sig Unit (Elt F) ℕ UU ℕ)}

/-- A signal of one unit to the barrier cell of the device `o` places on, handing over that device's slots of the own
    destination buffers. -/
theorem step_sig (o : Fin 16) {i : ℕ} (hi : o.val = i) (h1 : 1 ≤ i) {n : Dev nD} (hn : n = nx c o) {v : ℤ} (hv : v = 1)
    (h : iprop(SigSt sv K (i + 1) c ∗ R) ⊢ WP c (k ⟨⟩) Q) :
    iprop(SigSt sv K i c ∗ R) ⊢ WP c (.op (.semSignal (n : Thread nD τ) barS v) k) Q := by
  subst hn hi hv
  unfold SigSt
  rw [big_ge]
  iintro ⟨⟨#Hr, HO, ⟨Ht, Hs0, Hs1⟩, Hrest⟩, HR⟩
  unfold owing
  icases HO with ⟨%W, HO⟩
  ihave #Hinv := (recs_inv sv K (nx c o) barI) $$ Hr
  ihave #Hrch := (recs_reached sv K (nx c o) barI) $$ Hr
  iapply (Rounds.wp_signal 𝒱₀ ER (rd sv) (c : Thread nD τ) none (dst := (nx c o : Thread nD τ)) (κ := K (nx c o, barI)) (r := 0)
      (d := ng o) (k' := 1) (by rw [duties_bar]; exact mem_ge.mpr (ng_pos o h1)) (amount_bar sv (nx c o) 0 (ng o)) ()
      (debB (o.val + 1) c + (ext 0 c + debR 0 1 c)) (O₀ := debB o.val c + (ext 0 c + debR 0 1 c)) (by rw [debB_step, add_right_comm]) (W := W)) $$ [HO Ht Hs0 Hs1]
  · isplitr; · iexact Hinv
    isplitl [HO]; · iexact HO
    isplitl [Ht]; · iexact Ht
    isplitl [Hs0 Hs1]
    · rw [payload_bar]; unfold barPay; rw [nx_nx_ng]
      isplitl [Hs0] <;> iassumption
    iexact Hrch
  iintro HO
  iapply h
  unfold SigSt owing
  isplitr [HR]
  · isplitr; · iexact Hr
    isplitl [HO]; · iexists W; iexact HO
    iexact Hrest
  iexact HR

/-- The barrier wait: the slots of every other device the own sends land in. -/
theorem step_bar {v : ℕ} (hv : v = 15)
    (h : iprop((recs sv K ∗ owing c (ext 0 c + debR 0 1 c) ∗ atPos ER (barCell c) 1 ∅ 0 ∗ bigSep (ge 1) (barPay c)) ∗ R) ⊢ WP c (k ⟨⟩) Q) :
    iprop((recs sv K ∗ owing c (ext 0 c + debR 0 1 c) ∗ atPos ER (barCell c) 0 ∅ 0 ∗ cred (tallyAt (barCell c) () 15)) ∗ R)
      ⊢ WP c (.op (.semWait barS v) k) Q := by
  subst hv
  iintro ⟨⟨#Hr, HO, Hat, Hc⟩, HR⟩
  unfold owing
  icases HO with ⟨%W, HO⟩
  ihave #Hinv := (recs_inv sv K c barI) $$ Hr
  iapply (Rounds.wp_wait_rest_token 𝒱₀ ER (rd sv) (c : Thread nD τ) none (κ := K (c, barI)) (wpE_semWait_eq 𝒱₀ (c : Thread nD τ) none Set.univ)
      (Set.mem_univ _) () (O := ext 0 c + debR 0 1 c) (W := W) (R := 0) (m := 0) (T := ∅) (by rw [expect_bar])) $$ [HO Hat Hc]
  · isplitr; · iexact Hinv
    isplitl [Hc]; · iexact Hc
    isplitl [HO]; · iexact HO
    isplitr
    · iapply (recs_wait sv K c (.reg barS) (mayWait_above c (.reg barS) 1 (by rw [show dec (.reg barS) = some barI from dec_csem barI]; exact le_rfl)
        (above_add (above_ext 0 1 (by decide) c) (above_debR 0 1 le_rfl 1 c))))
      iexact Hr
    iexact Hat
  iintro ⟨HO, Hat, -, Hpay⟩
  ihave Hp := (Entails.of_eq (rest_bar sv c)) $$ Hpay
  iapply h
  isplitr [HR]
  · isplitr; · iexact Hr
    isplitl [HO]; · unfold owing; iexists _; iexact HO
    isplitl [Hat]; · iexact Hat
    iexact Hp
  iexact HR

/-- The own slot's local transfer. -/
theorem step_copy (p : Fin 2) {src dst : Memref sig (c : Thread nD τ).2.kind .vmem S64x512 .bf16} {sem : SemLoc sig}
    (hs : src = slotM (sM p) c) (hd : dst = slotM (dM p) c) (hq : sem = .dma locq)
    {h1 : src.view.WordExact} {h2 : dst.view.WordExact} {h3 : DmaTarget.Typed (nD := nD) .vmem sem (.here dst)}
    (h : iprop((recs sv K ∗ LocW p c) ∗ R) ⊢ WP c (k ⟨⟩) Q) :
    iprop((recs sv K ∗ LocS sv p c) ∗ R) ⊢ WP c (.op (.enqueueDma src (.here dst) sem h1 h2 h3) k) Q := by
  subst hs hd hq
  unfold LocS ownE owns
  iintro ⟨⟨#Hr, ⟨%fs, %hfs, Hs⟩, ⟨%X, %fd, %hfd, Hd⟩, Ht, Hrch, Hat⟩, HR⟩
  ihave #Hinv := (recs_inv sv K c locI) $$ Hr
  iapply (Rounds.wp_copy_pointsTo 𝒱₀ ER (rd sv) (c : Thread nD τ) none (κ := K (c, locI)) (r := p.val) (d := 0)
      (by rw [duties_loc]; exact Finset.mem_singleton_self _) () N (by exact credit_d p c) (amount_loc sv c p.val 0)
      (by
        rw [payload_loc]; unfold locPay owns
        iintro ⟨Hd, Hs⟩
        isplitl [Hs]
        · iexists fs; isplitr; · (ipureintro; exact hfs)
          iexact Hs
        · iexists ((slotM (dM p) c).view.write (Elt F) fd ((slotM (sM p) c).view.read (Elt F) fs) Finset.univ)
          isplitr [Hd]; rotate_left; · iexact Hd
          ipureintro; rw [View.read_write_univ]; exact hfs)) $$ [Hs Hd Ht Hrch]
  · isplitr; · iexact Hinv
    isplitl [Hs]; · iexact Hs
    isplitl [Hd]; · iexact Hd
    isplitl [Ht] <;> iassumption
  iintro Hc
  iapply h
  isplitr [HR]
  · isplitr; · iexact Hr
    unfold LocW
    isplitl [Hc] <;> iassumption
  iexact HR

/-- The wait for the local transfer. -/
theorem step_waitLoc (p : Fin 2) {src dst : Memref sig .tc .vmem S64x512 .bf16} {q : DmaSem sig} (hq : q = locq)
    (hN : dst.view.dmaCredit = N) {h1 : src.view.WordExact} {h2 : dst.view.WordExact}
    (h : iprop((WaitSt sv K p 1 1 c ∗ LocD sv p c) ∗ R) ⊢ WP c (k ⟨⟩) Q) :
    iprop((WaitSt sv K p 1 1 c ∗ LocW p c) ∗ R) ⊢ WP c (.op (.waitDma2 q src dst h1 h2) k) Q := by
  subst hq
  unfold WaitSt LocW owing
  iintro ⟨⟨⟨#Hr, ⟨%W, HO⟩, Hrest⟩, Hc, Hat⟩, HR⟩
  ihave #Hinv := (recs_inv sv K c locI) $$ Hr
  iapply (Rounds.wp_wait_rest_token 𝒱₀ ER (rd sv) (c : Thread nD τ) none (κ := K (c, locI)) (wpE_waitDma2_eq 𝒱₀ (c : Thread nD τ) none Set.univ)
      (Set.mem_univ _) () (O := ext p c) (W := W) (R := p.val) (m := 0) (T := ∅) (by rw [Nat.zero_add, expect_loc, hN])) $$ [HO Hat Hc]
  · isplitr; · iexact Hinv
    isplitl [Hc]; · rw [hN]; iexact Hc
    isplitl [HO]; · iexact HO
    isplitr
    · iapply (recs_wait sv K c (.dma locq) (mayWait_above c (.dma locq) 0
        (by rw [show dec (.dma locq) = some locI from dec_csem locI]; exact le_rfl) (above_ext p 0 (by decide) c)))
      iexact Hr
    iexact Hat
  iintro ⟨HO, Hat, Hrch, Hpay⟩
  ihave Hp := (Entails.of_eq (rest_loc sv c p)) $$ Hpay
  iapply h
  unfold WaitSt LocD owing
  isplitr [HR]
  · isplitr [Hat Hrch Hp]
    · isplitr; · iexact Hr
      isplitl [HO]; · iexists _; iexact HO
      iexact Hrest
    isplitl [Hat]; · iexact Hat
    isplitl [Hrch] <;> iassumption
  iexact HR

/-- A send at offset `o`. -/
theorem step_send (p : Fin 2) (o : Fin 16) {i : ℕ} (hi : o.val = i) (h1 : 1 ≤ i) {n : Dev nD} {src dst : Memref sig .tc .vmem S64x512 .bf16}
    {sS sem : SemLoc sig} (hn : n = nx c o) (hs : src = slotM (sM p) (nx c o)) (hd : dst = slotM (dM p) c)
    (hS : sS = .dma (xq (sA p) o)) (hq : sem = .dma (xq (rA p) o))
    {hsc : (dst : Memref sig (Dev.tc n : Thread nD τ).2.kind .vmem S64x512 .bf16).view.ref.isScScratch = false}
    {w1 : src.view.WordExact} {w2 : dst.view.WordExact} {w3 : DmaTarget.Typed .vmem sem (.remote (Dev.tc n : Thread nD τ) dst sS hsc)}
    (h : iprop(SendSt sv K p (i + 1) c ∗ R) ⊢ WP c (k ⟨⟩) Q) :
    iprop(SendSt sv K p i c ∗ R) ⊢ WP c (.op (.enqueueDma src (.remote (Dev.tc n : Thread nD τ) dst sS hsc) sem w1 w2 w3) k) Q := by
  subst hi hn hs hd hS hq
  unfold SendSt sendRes
  rw [big_ge]
  unfold sendPay ownE owns owing
  iintro ⟨⟨#Hr, ⟨%W, HO⟩, ⟨⟨⟨%fs, %hfs, Hs⟩, ⟨%X, %fd, %hfd, Hd⟩, Ht1, Ht2⟩, Hrest⟩, Hcs⟩, HR⟩
  ihave #Hinv1 := (recs_inv sv K c (xI (sA p) o)) $$ Hr
  ihave #Hinv2 := (recs_inv sv K (nx c o) (xI (rA p) o)) $$ Hr
  ihave #Hrc1 := (recs_reached sv K c (xI (sA p) o)) $$ Hr
  ihave #Hrc2 := (recs_reached sv K (nx c o) (xI (rA p) o)) $$ Hr
  iapply (Rounds.wp_send_pointsTo 𝒱₀ ER (rd sv) (c : Thread nD τ) none (κ₁ := K (c, xI (sA p) o)) (κ₂ := K (nx c o, xI (rA p) o))
      (r₁ := 0) (r₂ := 0) (d₁ := 0) (d₂ := 0) (fs := fs) (fd := fd)
      (by rw [duties_x sv _ _ o h1]; exact Finset.mem_singleton_self _) (by rw [duties_x sv _ _ o h1]; exact Finset.mem_singleton_self _)
      () () N (by exact credit_d p c) (amount_x sv c (sA p) o 0 0) (amount_x sv (nx c o) (rA p) o 0 0)
      (ext p c + debR p (o.val + 1) c) (O₀ := ext p c + debR p o.val c) (by rw [debR_step, add_assoc]) (W := W)
      (by
        rw [payload_s]; unfold sendPay owns
        iintro Hs; iexists fs; isplitr; · (ipureintro; exact hfs)
        iexact Hs)
      (by
        rw [payload_r]; unfold recvPay owns; rw [pv_nx]
        iintro Hd; iexists ((slotM (dM p) c).view.write (Elt F) fd ((slotM (sM p) (nx c o)).view.read (Elt F) fs) Finset.univ)
        isplitr [Hd]; rotate_left; · iexact Hd
        ipureintro; rw [View.read_write_univ]; exact hfs)) $$ [Hs Hd HO Ht1 Ht2]
  · isplitr; · iexact Hinv1
    isplitr; · iexact Hinv2
    isplitl [Hs]; · iexact Hs
    isplitl [Hd]; · iexact Hd
    isplitl [HO]; · iexact HO
    isplitl [Ht1]; · iexact Ht1
    isplitr; · iexact Hrc1
    isplitl [Ht2]; · iexact Ht2
    iexact Hrc2
  iintro ⟨Hc, HO⟩
  iapply h
  unfold SendSt owing sendRes sendPay ownE owns
  rw [big_lt o h1]
  isplitr [HR]
  · isplitr; · iexact Hr
    isplitl [HO]; · iexists W; iexact HO
    isplitl [Hrest]; · iexact Hrest
    isplitl [Hc] <;> iassumption
  iexact HR

/-- The wait on a send cell: the source slot comes back. -/
theorem step_waitS (p : Fin 2) (o : Fin 16) {i j : ℕ} (hi : o.val = i) (h1 : 1 ≤ i) {src dst : Memref sig .tc .vmem S64x512 .bf16}
    {q : DmaSem sig} (hq : q = xq (sA p) o) (hN : dst.view.dmaCredit = N) {w1 : src.view.WordExact} {w2 : dst.view.WordExact}
    (h : iprop(WaitSt sv K p (i + 1) j c ∗ R) ⊢ WP c (k ⟨⟩) Q) :
    iprop(WaitSt sv K p i j c ∗ R) ⊢ WP c (.op (.waitDma2 q src dst w1 w2) k) Q := by
  subst hi hq
  unfold WaitSt
  rw [big_ge o]
  iintro ⟨⟨#Hr, HO, ⟨⟨Hc, Hat⟩, Hs⟩, Hv, Hs', Hv'⟩, HR⟩
  unfold owing
  icases HO with ⟨%W, HO⟩
  ihave #Hinv := (recs_inv sv K c (xI (sA p) o)) $$ Hr
  iapply (Rounds.wp_wait_rest_token 𝒱₀ ER (rd sv) (c : Thread nD τ) none (κ := K (c, xI (sA p) o)) (wpE_waitDma2_eq 𝒱₀ (c : Thread nD τ) none Set.univ)
      (Set.mem_univ _) () (O := ext p c) (W := W) (R := 0) (m := 0) (T := ∅) (by rw [Nat.zero_add, expect_x sv c _ o h1, hN])) $$ [HO Hat Hc]
  · isplitr; · iexact Hinv
    isplitl [Hc]; · rw [hN]; iexact Hc
    isplitl [HO]; · iexact HO
    isplitr
    · iapply (recs_wait sv K c (.dma (xq (sA p) o)) (mayWait_above c (.dma (xq (sA p) o)) 0 (by
        rw [show dec (.dma (xq (sA p) o)) = some (xI (sA p) o) from dec_csem (xI (sA p) o)]; fin_cases p <;> exact le_rfl) (above_ext p 0 (by decide) c)))
      iexact Hr
    iexact Hat
  iintro ⟨HO, Hat, -, Hpay⟩
  ihave Hp := (Entails.of_eq (rest_s sv c p o h1)) $$ Hpay
  iapply h
  unfold WaitSt owing
  rw [big_lt o h1]
  isplitr [HR]
  · isplitr; · iexact Hr
    isplitl [HO]; · iexists _; iexact HO
    isplitl [Hs]; · iexact Hs
    isplitl [Hv]; · iexact Hv
    isplitr [Hv']; rotate_left; · iexact Hv'
    isplitr [Hs']; rotate_left; · iexact Hs'
    isplitl [Hat] <;> iassumption
  iexact HR

/-- The wait on a receive cell: the slot of the device `o` places back, filled. -/
theorem step_waitR (p : Fin 2) (o : Fin 16) {i j : ℕ} (hi : o.val = j) (h1 : 1 ≤ j) {src dst : Memref sig .tc .vmem S64x512 .bf16}
    {q : DmaSem sig} (hq : q = xq (rA p) o) (hN : dst.view.dmaCredit = N) {w1 : src.view.WordExact} {w2 : dst.view.WordExact}
    (h : iprop(WaitSt sv K p i (j + 1) c ∗ R) ⊢ WP c (k ⟨⟩) Q) :
    iprop(WaitSt sv K p i j c ∗ R) ⊢ WP c (.op (.waitDma2 q src dst w1 w2) k) Q := by
  subst hi hq
  unfold WaitSt
  rw [big_ge o (fun o => iprop(cred (tallyAt (xcell (rA p) o c) () N) ∗ atPos ER (xcell (rA p) o c) 0 ∅ 0))]
  iintro ⟨⟨#Hr, HO, Hs, ⟨⟨Hc, Hat⟩, Hv⟩, Hs', Hv'⟩, HR⟩
  unfold owing
  icases HO with ⟨%W, HO⟩
  ihave #Hinv := (recs_inv sv K c (xI (rA p) o)) $$ Hr
  iapply (Rounds.wp_wait_rest_token 𝒱₀ ER (rd sv) (c : Thread nD τ) none (κ := K (c, xI (rA p) o)) (wpE_waitDma2_eq 𝒱₀ (c : Thread nD τ) none Set.univ)
      (Set.mem_univ _) () (O := ext p c) (W := W) (R := 0) (m := 0) (T := ∅) (by rw [Nat.zero_add, expect_x sv c _ o h1, hN])) $$ [HO Hat Hc]
  · isplitr; · iexact Hinv
    isplitl [Hc]; · rw [hN]; iexact Hc
    isplitl [HO]; · iexact HO
    isplitr
    · iapply (recs_wait sv K c (.dma (xq (rA p) o)) (mayWait_ext c p o))
      iexact Hr
    iexact Hat
  iintro ⟨HO, Hat, -, Hpay⟩
  ihave Hp := (Entails.of_eq (rest_r sv c p o h1)) $$ Hpay
  iapply h
  unfold WaitSt owing
  rw [big_lt o h1 (fun o => iprop(atPos ER (xcell (rA p) o c) 1 ∅ 0 ∗ recvPay sv p o c))]
  isplitr [HR]
  · isplitr; · iexact Hr
    isplitl [HO]; · iexists _; iexact HO
    isplitl [Hs]; · iexact Hs
    isplitl [Hv]; · iexact Hv
    isplitl [Hs']; · iexact Hs'
    isplitr [Hv']; rotate_left; · iexact Hv'
    isplitl [Hat] <;> iassumption
  iexact HR

end Steps

/-! ## From one stage to the next -/

section Moves

omit [FloatOps F] in
/-- A separating conjunction over the devices, by their offset on from `c`; and by their offset back from `c`. -/
theorem big_nx {M : Type} [URA M] (c : Dev nD) (Φ : Dev nD → sProp M) :
    bigSep Finset.univ Φ = iprop(Φ c ∗ bigSep (ge 1) fun o => Φ (nx c o)) := by
  have h : bigSep Finset.univ Φ = bigSep Finset.univ fun o : Fin 16 => Φ (nx c o) := bigSep_univ_equiv (nxE c) Φ
  rw [h, big_zero, nx_zero]
omit [FloatOps F] in
theorem big_pv {M : Type} [URA M] (c : Dev nD) (Φ : Dev nD → sProp M) :
    bigSep Finset.univ Φ = iprop(Φ c ∗ bigSep (ge 1) fun o => Φ (pv c o)) := by
  have h : bigSep Finset.univ Φ = bigSep Finset.univ fun o : Fin 16 => Φ (pv c o) := bigSep_univ_equiv (pvE c) Φ
  rw [h, big_zero, pv_zero]

variable {sv K}
variable (c : Dev nD)

/-- What phase `p` takes besides the source buffer: the slots it lands in, the tokens of its cells. -/
def Pool (p : Fin 2) : sProp (MT nD τ sig Unit (Elt F) ℕ UU ℕ) :=
  iprop(ownE c (slotM (dM p) c) ∗ (bigSep (ge 1) fun o => ownE (nx c o) (slotM (dM p) c))
    ∗ (bigSep (ge 1) fun o => dutyTok ER (xcell (sA p) o c) 0 0) ∗ (bigSep (ge 1) fun o => dutyTok ER (xcell (rA p) o (nx c o)) 0 0)
    ∗ dutyTok ER (locCell c) p.val 0 ∗ reached ER (locCell c) p.val ∗ atPos ER (locCell c) p.val ∅ 0)

/-- Its positions and credits before the waits; its positions after them. -/
def Pos (p : Fin 2) : sProp (MT nD τ sig Unit (Elt F) ℕ UU ℕ) :=
  iprop((bigSep (ge 1) fun o => atPos ER (xcell (sA p) o c) 0 ∅ 0)
    ∗ bigSep (ge 1) fun o => iprop(cred (tallyAt (xcell (rA p) o c) () N) ∗ atPos ER (xcell (rA p) o c) 0 ∅ 0))
def Done (p : Fin 2) : sProp (MT nD τ sig Unit (Elt F) ℕ UU ℕ) :=
  iprop((bigSep (ge 1) fun o => atPos ER (xcell (sA p) o c) 1 ∅ 0) ∗ bigSep (ge 1) fun o => atPos ER (xcell (rA p) o c) 1 ∅ 0)

omit [FloatOps F] in
theorem bar_done : bigSep (ge 1) (barPay (F := F) c)
    = iprop((bigSep (ge 1) fun o => ownE (nx c o) (slotM (dM 0) c)) ∗ bigSep (ge 1) fun o => ownE (nx c o) (slotM (dM 1) c)) :=
  bigSep_sep' _ _ _

omit [FloatOps F] in
/-- A phase begins: the source buffer filled, cut into its slots. -/
theorem phase_start (p : Fin 2) :
    iprop(recs sv K ∗ owing c (ext p c + debR p 1 c) ∗ owns (c : Thread nD τ) (sM p) fullShare (sv p c) ∗ Pool c p)
      ⊢ iprop((recs sv K ∗ LocS sv p c) ∗ SendSt sv K p 1 c) := by
  have e : (bigSep (ge 1) fun o => sendRes sv p o c)
      = iprop((bigSep (ge 1) fun o => sendPay sv p o c) ∗ (bigSep (ge 1) fun o => ownE (nx c o) (slotM (dM p) c))
        ∗ (bigSep (ge 1) fun o => dutyTok ER (xcell (sA p) o c) 0 0) ∗ bigSep (ge 1) fun o => dutyTok ER (xcell (rA p) o (nx c o)) 0 0) := by
    unfold sendRes; rw [bigSep_sep', bigSep_sep', bigSep_sep']
  unfold Pool LocS SendSt
  rw [e, lt_one, bigSep_empty]
  iintro ⟨#Hr, HO, Hs, Hd, Hds, Ht1, Ht2, Htl, Hrl, Hal⟩
  ihave Hs := (owns_slots c (sM p) (sv p c)) $$ Hs
  ihave Hs := (Entails.of_eq (big_nx c fun j => owns (c : Thread nD τ) (slotM (sM p) j) fullShare (slotOf (sv p c) j))) $$ Hs
  icases Hs with ⟨Hs0, Hs⟩
  isplitl [Hs0 Hd Htl Hrl Hal]
  · isplitr; · iexact Hr
    isplitl [Hs0]; · iexact Hs0
    isplitl [Hd]; · iexact Hd
    isplitl [Htl]; · iexact Htl
    isplitl [Hrl] <;> iassumption
  isplitr; · iexact Hr
  isplitl [HO]; · iexact HO
  isplitl
  · isplitl [Hs]; · unfold sendPay; iexact Hs
    isplitl [Hds]; · iexact Hds
    isplitl [Ht1] <;> iassumption
  iempintro

omit [FloatOps F] in
/-- All is sent: the waits begin. -/
theorem phase_mid (p : Fin 2) : iprop(SendSt sv K p 16 c ∗ Pos c p) ⊢ WaitSt sv K p 1 1 c := by
  unfold SendSt Pos WaitSt
  rw [lt_one, bigSep_empty, bigSep_empty, debR_all, add_zero, lt_all, bigSep_sep' (ge 1) (fun o => cred (tallyAt (xcell (sA p) o c) () N))]
  iintro ⟨⟨#Hr, HO, -, Hc⟩, Ha, Hv⟩
  isplitr; · iexact Hr
  isplitl [HO]; · iexact HO
  isplitl [Hc Ha]; · isplitl [Hc] <;> iassumption
  isplitl [Hv]; · iexact Hv
  isplitl <;> iempintro

omit [FloatOps F] in
/-- A phase is over: the source buffer whole again, the destination buffer whole and filled. -/
theorem phase_end [∀ e, Nonempty (Elt F e)] (p : Fin 2) :
    iprop(WaitSt sv K p 16 16 c ∗ LocD sv p c)
      ⊢ iprop(recs sv K ∗ owing c (ext p c) ∗ Done c p ∗ atPos ER (locCell c) (p.val + 1) ∅ 0 ∗ reached ER (locCell c) (p.val + 1)
        ∗ owns (c : Thread nD τ) (sM p) fullShare (sv p c) ∗ owns (c : Thread nD τ) (dM p) fullShare (recvX (sv p) c)) := by
  have es : iprop(owns (c : Thread nD τ) (slotM (sM p) c) fullShare (slotOf (sv p c) c) ∗ bigSep (ge 1) fun o => sendPay sv p o c)
      ⊢ owns (c : Thread nD τ) (sM p) fullShare (sv p c) := by
    refine BIBase.Entails.trans (Entails.of_eq ?_) (slots_owns c (sM p) (sv p c))
    rw [big_nx c]; rfl
  have ed : iprop(owns (c : Thread nD τ) (slotM (dM p) c) fullShare (slotOf (sv p c) c) ∗ bigSep (ge 1) fun o => recvPay sv p o c)
      ⊢ owns (c : Thread nD τ) (dM p) fullShare (recvX (sv p) c) := by
    refine BIBase.Entails.trans (Entails.of_eq ?_) (slots_owns c (dM p) (recvX (sv p) c))
    rw [big_pv c, slotOf_recvX]
    unfold recvPay
    simp only [slotOf_recvX]
  unfold WaitSt LocD Done locPay
  rw [lt_all, bigSep_sep' (ge 1) (fun o => atPos ER (xcell (sA p) o c) 1 ∅ 0), bigSep_sep' (ge 1) (fun o => atPos ER (xcell (rA p) o c) 1 ∅ 0)]
  iintro ⟨⟨#Hr, HO, -, -, ⟨Ha, Hs⟩, ⟨Hb, Hd⟩⟩, Hl, Hrl, Hs0, Hd0⟩
  isplitr; · iexact Hr
  isplitl [HO]; · iexact HO
  isplitl [Ha Hb]; · isplitl [Ha] <;> iassumption
  isplitl [Hl]; · iexact Hl
  isplitl [Hrl]; · iexact Hrl
  isplitl [Hs Hs0]
  · iapply es; isplitl [Hs0] <;> iassumption
  · iapply ed; isplitl [Hd0] <;> iassumption

end Moves

end Cert.KernelIdealProof

end
-- ==== Proof.KernelIdealParts.lean ====
/-
# 01_k — the kernel's parts, run one after the other (KernelIdeal)

The kernel's body is printed in 32 parts. For each, what the device holds before and after it: a chain of the rules of
`KernelIdealSteps`, one per operation, in program order.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the kernel, as a function of the kernel's arguments; and the part at the launch's own memrefs. -/
abbrev PartTy (β : Type 1) : Type 1 :=
  (arg0 : Memref sig .tc .vmem S512x512 .bf16) → arg0.IsWhole → (arg1 : Memref sig .tc .vmem S512x1 .i32) → arg1.IsWhole
    → (arg2 : Memref sig .tc .vmem S2x512x1024 .bf16) → arg2.IsWhole → (arg3 : Memref sig .tc .vmem S2x1024x512 .bf16) → arg3.IsWhole
    → (arg4 : Memref sig .tc .vmem S512x512 .f32) → arg4.IsWhole → (arg5 : Memref sig .tc .vmem S16x64x512 .bf16) → arg5.IsWhole
    → (arg6 : Memref sig .tc .vmem S16x64x512 .bf16) → arg6.IsWhole → (arg7 : Memref sig .tc .vmem S16x64x512 .bf16) → arg7.IsWhole
    → (arg8 : Memref sig .tc .vmem S16x64x512 .bf16) → arg8.IsWhole
    → DmaSems sig S16 → DmaSems sig S16 → DmaSems sig S16 → DmaSems sig S16 → DmaSems sig S_ → β

abbrev atL {β : Type 1} (f : PartTy β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8

abbrev bar0 : Sems sig S_ := SemArray.scalar (sig.barrier 0 rfl)

variable {sv : Sent F} {K : Dev nD × CI → ℕ} {c : Dev nD} {R : sProp (MT nD τ sig Unit (Elt F) ℕ UU ℕ)}

theorem wp_done {α : Type} {a : α} {P : sProp (MT nD τ sig Unit (Elt F) ℕ UU ℕ)} {Q : α → sProp (MT nD τ sig Unit (Elt F) ℕ UU ℕ)} (h : P ⊢ Q a) : P ⊢ WP c (.ret a) Q :=
  h.trans (le_wp_ret _ _ _ a Q)

/-- A load: of contents known, what it reads. -/
theorem step_load {α : Type} {Q : α → sProp (MT nD τ sig Unit (Elt F) ℕ UU ℕ)} {s : Shape} {e : EltTy} {m : Memref sig .tc .vmem s e} {r : LoadRect s}
    {hl : m.view.LoadsAt r} {k : (r.shape.Idx → Elt F e) → Prog (TpuEff nD τ sig (Elt F) Λ₀ .tc) α}
    {f : Buf (Elt F) (m.view.loc (c : Thread nD τ))} {v : r.shape.Idx → Elt F e} (hv : m.view.readAt (Elt F) r f = v)
    (h : iprop((m.view.loc (c : Thread nD τ) ↦{fullShare} f) ∗ R) ⊢ WP c (k v) Q) :
    iprop((m.view.loc (c : Thread nD τ) ↦{fullShare} f) ∗ R) ⊢ WP c (.op (.load m r hl) k) Q := by
  subst hv
  iintro ⟨H, HR⟩
  iapply (wp_load 𝒱₀ (c : Thread nD τ) none Set.univ (m := m) (Finset.subset_univ _)) $$ H; iintro H
  iapply h
  isplitl [H] <;> iassumption

/-- A store over the whole of a buffer. -/
theorem step_store {α : Type} {Q : α → sProp (MT nD τ sig Unit (Elt F) ℕ UU ℕ)} {s : Shape} {e : EltTy} {m : Memref sig .tc .vmem s e} {r : Rect s}
    {k : PUnit → Prog (TpuEff nD τ sig (Elt F) Λ₀ .tc) α} {w : Vec F r.shape e} {h1 h2}
    {f : Buf (Elt F) (m.view.loc (c : Thread nD τ))} {v : Buf (Elt F) (m.view.loc (c : Thread nD τ))}
    (hv : (m.access r : View sig .tc _ _ _).write (Elt F) f w Finset.univ = v)
    (h : iprop((m.view.loc (c : Thread nD τ) ↦{fullShare} v) ∗ R) ⊢ WP c (k ⟨⟩) Q) :
    iprop((m.view.loc (c : Thread nD τ) ↦{fullShare} f) ∗ R) ⊢ WP c (.op (.store m r w Finset.univ h1 h2) k) Q := by
  subst hv
  iintro ⟨H, HR⟩
  iapply (wp_store 𝒱₀ (c : Thread nD τ) none Set.univ (m := m) (r := r) (Mk := Finset.univ) (Finset.subset_univ _)) $$ H; iintro H
  iapply h
  isplitl [H] <;> iassumption

/-- A buffer of device `c` and its contents. -/
abbrev has (c : Dev nD) (b : Ref sig .tc) (f : b.ty.Contents (Elt F)) : sProp (MT nD τ sig Unit (Elt F) ℕ UU ℕ) :=
  ((c : Thread nD τ).loc b) ↦{fullShare} f

theorem hz2 : (![0, 0] : Fin 2 → ℕ) = fun _ => 0 := by decide
theorem hz3 : (![0, 0, 0] : Fin 3 → ℕ) = fun _ => 0 := by decide

/-- The two experts' weights as the kernel loads them. -/
def w1a (w : S2x512x1024.Idx → Elt F .bf16) : S1x512x1024.Idx → Elt F .bf16 :=
  (Memref.whole cc0_stg2_0).view.readAt (Elt F) (Rect.unit (s := S2x512x1024) ![0, 0, 0] S1x512x1024.size inb_S2x512x1024_S1x512x1024_0_0_0).toLoadRect w
def w1b (w : S2x512x1024.Idx → Elt F .bf16) : S1x512x1024.Idx → Elt F .bf16 :=
  (Memref.whole cc0_stg2_0).view.readAt (Elt F) (Rect.unit (s := S2x512x1024) ![1, 0, 0] S1x512x1024.size inb_S2x512x1024_S1x512x1024_1_0_0).toLoadRect w
def w2a (w : S2x1024x512.Idx → Elt F .bf16) : S1x1024x512.Idx → Elt F .bf16 :=
  (Memref.whole cc0_stg3_0).view.readAt (Elt F) (Rect.unit (s := S2x1024x512) ![0, 0, 0] S1x1024x512.size inb_S2x1024x512_S1x1024x512_0_0_0).toLoadRect w
def w2b (w : S2x1024x512.Idx → Elt F .bf16) : S1x1024x512.Idx → Elt F .bf16 :=
  (Memref.whole cc0_stg3_0).view.readAt (Elt F) (Rect.unit (s := S2x1024x512) ![1, 0, 0] S1x1024x512.size inb_S2x1024x512_S1x1024x512_1_0_0).toLoadRect w

/-! ## The signals; the assignment is loaded -/

theorem part1 {Kt : _ → sProp (MT nD τ sig Unit (Elt F) ℕ UU ℕ)}
    (h : ∀ v2 v24 w, iprop(SigSt sv K 6 c ∗ R) ⊢ Kt ⟨c, v2, bar0, v24, w⟩) :
    iprop(SigSt sv K 1 c ∗ R) ⊢ WP c (atL (k0_part1 (F := F))) Kt := by
  rw [k0_part1_eq_skeleton]; unfold k0_part1_skel
  simp only [semSignalWord, semWaitWord, Prog.lift, Prog.bind_op, Prog.bind_ret, Prog.pure_eq_ret, wp_deviceId, atL]
  refine step_sig 1 rfl (by decide) (Fin.ext (k0_dev1_eq c)) rfl ?_
  refine step_sig 2 rfl (by decide) (Fin.ext (k0_dev2_eq c)) rfl ?_
  refine step_sig 3 rfl (by decide) (Fin.ext (k0_dev3_eq c)) rfl ?_
  refine step_sig 4 rfl (by decide) (Fin.ext (k0_dev4_eq c)) rfl ?_
  refine step_sig 5 rfl (by decide) (Fin.ext (k0_dev5_eq c)) rfl ?_
  exact wp_done (h _ _ _)

theorem part2 {v2 v24 w : BitVec 32} {Kt : _ → sProp (MT nD τ sig Unit (Elt F) ℕ UU ℕ)}
    (h : ∀ r, iprop(SigSt sv K 12 c ∗ R) ⊢ Kt r) :
    iprop(SigSt sv K 6 c ∗ R) ⊢ WP c (atL (k0_part2 (F := F)) c v2 bar0 v24 w) Kt := by
  rw [k0_part2_eq_skeleton]; unfold k0_part2_skel
  simp only [semSignalWord, semWaitWord, Prog.lift, Prog.bind_op, Prog.bind_ret, Prog.pure_eq_ret, wp_deviceId, atL]
  refine step_sig 6 rfl (by decide) (Fin.ext (k0_dev6_eq c)) rfl ?_
  refine step_sig 7 rfl (by decide) (Fin.ext (k0_dev7_eq c)) rfl ?_
  refine step_sig 8 rfl (by decide) (Fin.ext (k0_dev8_eq c)) rfl ?_
  refine step_sig 9 rfl (by decide) (Fin.ext (k0_dev9_eq c)) rfl ?_
  refine step_sig 10 rfl (by decide) (Fin.ext (k0_dev10_eq c)) rfl ?_
  refine step_sig 11 rfl (by decide) (Fin.ext (k0_dev11_eq c)) rfl ?_
  exact wp_done (h _)

theorem part3 {v2 v48 w : BitVec 32} {a : S512x1.Idx → Elt F .i32} {Kt : _ → sProp (MT nD τ sig Unit (Elt F) ℕ UU ℕ)}
    (h : iprop(SigSt sv K 16 c ∗ has c cc0_stg1_0 a ∗ R) ⊢ Kt ⟨k0_pay2 (F := F) a, k0_pay3 a, k0_pay4, k0_pay5⟩) :
    iprop(SigSt sv K 12 c ∗ has c cc0_stg1_0 a ∗ R) ⊢ WP c (atL (k0_part3 (F := F)) c v2 bar0 v48 w) Kt := by
  rw [k0_part3_eq_skeleton]; unfold k0_part3_skel
  simp only [semSignalWord, semWaitWord, Prog.lift, Prog.bind_op, Prog.bind_ret, Prog.pure_eq_ret, wp_deviceId, atL]
  refine step_sig 12 rfl (by decide) (Fin.ext (k0_dev12_eq c)) rfl ?_
  refine step_sig 13 rfl (by decide) (Fin.ext (k0_dev13_eq c)) rfl ?_
  refine step_sig 14 rfl (by decide) (Fin.ext (k0_dev14_eq c)) rfl ?_
  refine step_sig 15 rfl (by decide) (Fin.ext (k0_dev15_eq c)) rfl ?_
  refine (sep_left_comm.1).trans (step_load (m := Memref.whole cc0_stg1_0) (Memref.readAt_unit_zero (Elt F) cc0_stg1_0 hz2 _ a) ?_)
  exact wp_done ((sep_left_comm.1).trans h)

/-! ## The rows to send are written; the devices met; what stays is copied -/

/-- What the device takes into part 4. -/
def Pre4 (c : Dev nD) : sProp (MT nD τ sig Unit (Elt F) ℕ UU ℕ) :=
  iprop(atPos ER (barCell c) 0 ∅ 0 ∗ cred (tallyAt (barCell c) () 15) ∗ ownE c (slotM (dM 0) c)
    ∗ (bigSep (ge 1) fun o => dutyTok ER (xcell (sA 0) o c) 0 0) ∗ (bigSep (ge 1) fun o => dutyTok ER (xcell (rA 0) o (nx c o)) 0 0)
    ∗ dutyTok ER (locCell c) 0 0 ∗ atPos ER (locCell c) 0 ∅ 0)

theorem part4 {v2 : BitVec 32} {v65 : IVec S512x1 32} {v74 : FVec F S512x128 .bf16} {v79 v80 : IVec S512x512 32}
    {x : S512x512.Idx → Elt F .bf16} {f : S16x64x512.Idx → Elt F .bf16} (hs : sv 0 c = k0_pay7 v65 v74 v79 v80 x) {Kt : _ → sProp (MT nD τ sig Unit (Elt F) ℕ UU ℕ)}
    (h : ∀ u w, iprop(SendSt sv K 0 1 c ∗ LocW 0 c ∗ has c cc0_stg0_0 x ∗ atPos ER (barCell c) 1 ∅ 0
        ∗ (bigSep (ge 1) fun o => ownE (nx c o) (slotM (dM 1) c)) ∗ R) ⊢ Kt ⟨k0_pay6 v65 v74 v79 v80, u, w⟩) :
    iprop(SigSt sv K 16 c ∗ has c cc0_stg0_0 x ∗ has c cc0_scratch0 f ∗ Pre4 c ∗ R)
      ⊢ WP c (atL (k0_part4 (F := F)) c v2 bar0 v65 v74 v79 v80) Kt := by
  rw [k0_part4_eq_skeleton]; unfold k0_part4_skel
  simp only [semSignalWord, semWaitWord, Prog.lift, Prog.bind_op, Prog.bind_ret, Prog.pure_eq_ret, wp_deviceId, atL]
  refine (sep_left_comm.1).trans (step_load (m := Memref.whole cc0_stg0_0) (Memref.readAt_unit_zero (Elt F) cc0_stg0_0 hz2 _ x) ?_)
  refine BIBase.Entails.trans ?_ (step_load (m := Memref.whole cc0_scratch0) (R := iprop(has c cc0_stg0_0 x ∗ SigSt sv K 16 c ∗ Pre4 c ∗ R))
    (Memref.readAt_unit_zero (Elt F) cc0_scratch0 hz3 _ f) (step_store (m := Memref.whole cc0_scratch0)
      (Memref.write_access_unit_zero_univ (Elt F) cc0_scratch0 hz3 _ f (k0_pay7 v65 v74 v79 v80 x)) ?_))
  · iintro ⟨Hx, HS, Hf, HP, HR⟩
    isplitl [Hf]; · iexact Hf
    isplitl [Hx]; · iexact Hx
    isplitl [HS]; · iexact HS
    isplitl [HP] <;> iassumption
  rw [← hs]
  unfold SigSt Pre4
  rw [debB_all, zero_add]
  refine BIBase.Entails.trans ?_ (step_bar (sv := sv) (K := K) (R := iprop(has c cc0_scratch0 (sv 0 c) ∗ has c cc0_stg0_0 x ∗ ownE c (slotM (dM 0) c)
    ∗ (bigSep (ge 1) fun o => dutyTok ER (xcell (sA 0) o c) 0 0) ∗ (bigSep (ge 1) fun o => dutyTok ER (xcell (rA 0) o (nx c o)) 0 0)
    ∗ dutyTok ER (locCell c) 0 0 ∗ atPos ER (locCell c) 0 ∅ 0 ∗ R)) rfl ?_)
  · iintro ⟨Hf, Hx, ⟨#Hr, HO, -⟩, ⟨Hb, Hcb, Hd, Hs, Hv, Htl, Hal⟩, HR⟩
    isplitl [HO Hb Hcb]
    · isplitr; · iexact Hr
      isplitl [HO]; · iexact HO
      isplitl [Hb] <;> iassumption
    isplitl [Hf]; · iexact Hf
    isplitl [Hx]; · iexact Hx
    isplitl [Hd]; · iexact Hd
    isplitl [Hs]; · iexact Hs
    isplitl [Hv]; · iexact Hv
    isplitl [Htl]; · iexact Htl
    isplitl [Hal] <;> iassumption
  rw [bar_done]
  refine BIBase.Entails.trans ?_ (step_copy (sv := sv) (K := K) 0 (R := iprop(SendSt sv K 0 1 c ∗ has c cc0_stg0_0 x ∗ atPos ER (barCell c) 1 ∅ 0
        ∗ (bigSep (ge 1) fun o => ownE (nx c o) (slotM (dM 1) c)) ∗ R)) (slot_eq _ _ _ (k0_off1_eq c)) (slot_eq _ _ _ (k0_off1_eq c)) rfl ?_)
  · iintro ⟨⟨#Hr, HO, Hb, Hd0, Hd1⟩, Hf, Hx, Hd, Hs, Hv, Htl, Hal, HR⟩
    ihave #Hrl := (recs_reached sv K c locI) $$ Hr
    ihave Hph := (phase_start (sv := sv) (K := K) c 0) $$ [HO Hf Hd0 Hd Hs Hv Htl Hal]
    · isplitr; · iexact Hr
      isplitl [HO]; · iexact HO
      isplitl [Hf]
      · iapply (Entails.of_eq (owns_whole (c : Thread nD τ) cc0_scratch0 fullShare (sv 0 c)).symm); iexact Hf
      unfold Pool
      isplitl [Hd]; · iexact Hd
      isplitl [Hd0]; · iexact Hd0
      isplitl [Hs]; · iexact Hs
      isplitl [Hv]; · iexact Hv
      isplitl [Htl]; · iexact Htl
      isplitr; · iexact Hrl
      iexact Hal
    icases Hph with ⟨HL, HS⟩
    isplitl [HL]; · iexact HL
    isplitl [HS]; · iexact HS
    isplitl [Hx]; · iexact Hx
    isplitl [Hb]; · iexact Hb
    isplitl [Hd1] <;> iassumption
  refine wp_done (BIBase.Entails.trans ?_ (h _ _))
  iintro ⟨⟨-, HL⟩, HS, Hx, Hb, Hd, HR⟩
  isplitl [HS]; · iexact HS
  isplitl [HL]; · iexact HL
  isplitl [Hx]; · iexact Hx
  isplitl [Hb]; · iexact Hb
  isplitl [Hd] <;> iassumption

/-! ## The first exchange -/

theorem part5 {v2 w : BitVec 32} {Kt : _ → sProp (MT nD τ sig Unit (Elt F) ℕ UU ℕ)}
    (h : ∀ r, iprop(SendSt sv K 0 3 c ∗ R) ⊢ Kt r) :
    iprop(SendSt sv K 0 1 c ∗ R) ⊢ WP c (atL (k0_part5 (F := F)) c v2 w) Kt := by
  rw [k0_part5_eq_skeleton]; unfold k0_part5_skel
  simp only [semSignalWord, semWaitWord, Prog.lift, Prog.bind_op, Prog.bind_ret, Prog.pure_eq_ret, wp_deviceId, atL]
  refine step_send 0 1 rfl (by decide) (Fin.ext (k0_dev16_eq c)) (slot_eq _ _ _ (k0_off2_eq c 0)) (slot_eq _ _ _ (k0_off1_eq c)) rfl rfl ?_
  refine step_send 0 2 rfl (by decide) (Fin.ext (k0_dev17_eq c)) (slot_eq _ _ _ (k0_off2_eq c 1)) (slot_eq _ _ _ (k0_off1_eq c)) rfl rfl ?_
  exact wp_done (h _)

theorem part6 {v2 : BitVec 32} {Kt : _ → sProp (MT nD τ sig Unit (Elt F) ℕ UU ℕ)}
    (h : ∀ r, iprop(SendSt sv K 0 6 c ∗ R) ⊢ Kt r) :
    iprop(SendSt sv K 0 3 c ∗ R) ⊢ WP c (atL (k0_part6 (F := F)) c v2) Kt := by
  rw [k0_part6_eq_skeleton]; unfold k0_part6_skel
  simp only [semSignalWord, semWaitWord, Prog.lift, Prog.bind_op, Prog.bind_ret, Prog.pure_eq_ret, wp_deviceId, atL]
  refine step_send 0 3 rfl (by decide) (Fin.ext (k0_dev18_eq c)) (slot_eq _ _ _ (k0_off2_eq c 2)) (slot_eq _ _ _ (k0_off1_eq c)) rfl rfl ?_
  refine step_send 0 4 rfl (by decide) (Fin.ext (k0_dev19_eq c)) (slot_eq _ _ _ (k0_off2_eq c 3)) (slot_eq _ _ _ (k0_off1_eq c)) rfl rfl ?_
  refine step_send 0 5 rfl (by decide) (Fin.ext (k0_dev20_eq c)) (slot_eq _ _ _ (k0_off2_eq c 4)) (slot_eq _ _ _ (k0_off1_eq c)) rfl rfl ?_
  exact wp_done (h _)

theorem part7 {v2 : BitVec 32} {Kt : _ → sProp (MT nD τ sig Unit (Elt F) ℕ UU ℕ)}
    (h : ∀ r, iprop(SendSt sv K 0 9 c ∗ R) ⊢ Kt r) :
    iprop(SendSt sv K 0 6 c ∗ R) ⊢ WP c (atL (k0_part7 (F := F)) c v2) Kt := by
  rw [k0_part7_eq_skeleton]; unfold k0_part7_skel
  simp only [semSignalWord, semWaitWord, Prog.lift, Prog.bind_op, Prog.bind_ret, Prog.pure_eq_ret, wp_deviceId, atL]
  refine step_send 0 6 rfl (by decide) (Fin.ext (k0_dev21_eq c)) (slot_eq _ _ _ (k0_off2_eq c 5)) (slot_eq _ _ _ (k0_off1_eq c)) rfl rfl ?_
  refine step_send 0 7 rfl (by decide) (Fin.ext (k0_dev22_eq c)) (slot_eq _ _ _ (k0_off2_eq c 6)) (slot_eq _ _ _ (k0_off1_eq c)) rfl rfl ?_
  refine step_send 0 8 rfl (by decide) (Fin.ext (k0_dev23_eq c)) (slot_eq _ _ _ (k0_off2_eq c 7)) (slot_eq _ _ _ (k0_off1_eq c)) rfl rfl ?_
  exact wp_done (h _)

theorem part8 {v2 w : BitVec 32} {Kt : _ → sProp (MT nD τ sig Unit (Elt F) ℕ UU ℕ)}
    (h : ∀ r, iprop(SendSt sv K 0 11 c ∗ R) ⊢ Kt r) :
    iprop(SendSt sv K 0 9 c ∗ R) ⊢ WP c (atL (k0_part8 (F := F)) c v2 w) Kt := by
  rw [k0_part8_eq_skeleton]; unfold k0_part8_skel
  simp only [semSignalWord, semWaitWord, Prog.lift, Prog.bind_op, Prog.bind_ret, Prog.pure_eq_ret, wp_deviceId, atL]
  refine step_send 0 9 rfl (by decide) (Fin.ext (k0_dev24_eq c)) (slot_eq _ _ _ (k0_off2_eq c 8)) (slot_eq _ _ _ (k0_off1_eq c)) rfl rfl ?_
  refine step_send 0 10 rfl (by decide) (Fin.ext (k0_dev25_eq c)) (slot_eq _ _ _ (k0_off2_eq c 9)) (slot_eq _ _ _ (k0_off1_eq c)) rfl rfl ?_
  exact wp_done (h _)

theorem part9 {v2 : BitVec 32} {Kt : _ → sProp (MT nD τ sig Unit (Elt F) ℕ UU ℕ)}
    (h : ∀ r, iprop(SendSt sv K 0 14 c ∗ R) ⊢ Kt r) :
    iprop(SendSt sv K 0 11 c ∗ R) ⊢ WP c (atL (k0_part9 (F := F)) c v2) Kt := by
  rw [k0_part9_eq_skeleton]; unfold k0_part9_skel
  simp only [semSignalWord, semWaitWord, Prog.lift, Prog.bind_op, Prog.bind_ret, Prog.pure_eq_ret, wp_deviceId, atL]
  refine step_send 0 11 rfl (by decide) (Fin.ext (k0_dev26_eq c)) (slot_eq _ _ _ (k0_off2_eq c 10)) (slot_eq _ _ _ (k0_off1_eq c)) rfl rfl ?_
  refine step_send 0 12 rfl (by decide) (Fin.ext (k0_dev27_eq c)) (slot_eq _ _ _ (k0_off2_eq c 11)) (slot_eq _ _ _ (k0_off1_eq c)) rfl rfl ?_
  refine step_send 0 13 rfl (by decide) (Fin.ext (k0_dev28_eq c)) (slot_eq _ _ _ (k0_off2_eq c 12)) (slot_eq _ _ _ (k0_off1_eq c)) rfl rfl ?_
  exact wp_done (h _)

theorem part10 {v2 w w2 : BitVec 32} {Kt : _ → sProp (MT nD τ sig Unit (Elt F) ℕ UU ℕ)}
    (h : ∀ r, iprop(WaitSt sv K 0 2 1 c ∗ LocD sv 0 c ∗ R) ⊢ Kt r) :
    iprop(SendSt sv K 0 14 c ∗ LocW 0 c ∗ Pos c 0 ∗ R) ⊢ WP c (atL (k0_part10 (F := F)) c v2 w w2) Kt := by
  rw [k0_part10_eq_skeleton]; unfold k0_part10_skel
  simp only [semSignalWord, semWaitWord, Prog.lift, Prog.bind_op, Prog.bind_ret, Prog.pure_eq_ret, wp_deviceId, atL]
  refine step_send 0 14 rfl (by decide) (Fin.ext (k0_dev29_eq c)) (slot_eq _ _ _ (k0_off2_eq c 13)) (slot_eq _ _ _ (k0_off1_eq c)) rfl rfl ?_
  refine step_send 0 15 rfl (by decide) (Fin.ext (k0_dev30_eq c)) (slot_eq _ _ _ (k0_off2_eq c 14)) (slot_eq _ _ _ (k0_off1_eq c)) rfl rfl ?_
  refine (sep_left_comm.1).trans ?_
  iintro ⟨HL, HS, HP, HR⟩
  ihave HW := (phase_mid (sv := sv) (K := K) c 0) $$ [HS HP]
  · isplitl [HS]; · iexact HS
    iexact HP
  iapply (step_waitLoc 0 (by rfl) (by rfl) ((sep_assoc.1).trans (step_waitS 0 1 rfl (by decide) (by rfl) (by rfl) (wp_done (h _)))))
  isplitl [HW HL]
  · isplitl [HW] <;> iassumption
  iexact HR

theorem part11 {w w2 : BitVec 32} {Kt : _ → sProp (MT nD τ sig Unit (Elt F) ℕ UU ℕ)}
    (h : ∀ r, iprop(WaitSt sv K 0 3 3 c ∗ R) ⊢ Kt r) :
    iprop(WaitSt sv K 0 2 1 c ∗ R) ⊢ WP c (atL (k0_part11 (F := F)) c w w2) Kt := by
  rw [k0_part11_eq_skeleton]; unfold k0_part11_skel
  simp only [semSignalWord, semWaitWord, Prog.lift, Prog.bind_op, Prog.bind_ret, Prog.pure_eq_ret, wp_deviceId, atL]
  refine step_waitR 0 1 rfl (by decide) (by rfl) (by rfl) ?_
  refine step_waitS 0 2 rfl (by decide) (by rfl) (by rfl) ?_
  refine step_waitR 0 2 rfl (by decide) (by rfl) (by rfl) ?_
  exact wp_done (h _)

theorem part12 {w w2 : BitVec 32} {Kt : _ → sProp (MT nD τ sig Unit (Elt F) ℕ UU ℕ)}
    (h : ∀ r, iprop(WaitSt sv K 0 5 5 c ∗ R) ⊢ Kt r) :
    iprop(WaitSt sv K 0 3 3 c ∗ R) ⊢ WP c (atL (k0_part12 (F := F)) c w w2) Kt := by
  rw [k0_part12_eq_skeleton]; unfold k0_part12_skel
  simp only [semSignalWord, semWaitWord, Prog.lift, Prog.bind_op, Prog.bind_ret, Prog.pure_eq_ret, wp_deviceId, atL]
  refine step_waitS 0 3 rfl (by decide) (by rfl) (by rfl) ?_
  refine step_waitR 0 3 rfl (by decide) (by rfl) (by rfl) ?_
  refine step_waitS 0 4 rfl (by decide) (by rfl) (by rfl) ?_
  refine step_waitR 0 4 rfl (by decide) (by rfl) (by rfl) ?_
  exact wp_done (h _)

theorem part13 {w w2 : BitVec 32} {Kt : _ → sProp (MT nD τ sig Unit (Elt F) ℕ UU ℕ)}
    (h : ∀ r, iprop(WaitSt sv K 0 7 7 c ∗ R) ⊢ Kt r) :
    iprop(WaitSt sv K 0 5 5 c ∗ R) ⊢ WP c (atL (k0_part13 (F := F)) c w w2) Kt := by
  rw [k0_part13_eq_skeleton]; unfold k0_part13_skel
  simp only [semSignalWord, semWaitWord, Prog.lift, Prog.bind_op, Prog.bind_ret, Prog.pure_eq_ret, wp_deviceId, atL]
  refine step_waitS 0 5 rfl (by decide) (by rfl) (by rfl) ?_
  refine step_waitR 0 5 rfl (by decide) (by rfl) (by rfl) ?_
  refine step_waitS 0 6 rfl (by decide) (by rfl) (by rfl) ?_
  refine step_waitR 0 6 rfl (by decide) (by rfl) (by rfl) ?_
  exact wp_done (h _)

theorem part14 {w w2 : BitVec 32} {Kt : _ → sProp (MT nD τ sig Unit (Elt F) ℕ UU ℕ)}
    (h : ∀ r, iprop(WaitSt sv K 0 9 9 c ∗ R) ⊢ Kt r) :
    iprop(WaitSt sv K 0 7 7 c ∗ R) ⊢ WP c (atL (k0_part14 (F := F)) c w w2) Kt := by
  rw [k0_part14_eq_skeleton]; unfold k0_part14_skel
  simp only [semSignalWord, semWaitWord, Prog.lift, Prog.bind_op, Prog.bind_ret, Prog.pure_eq_ret, wp_deviceId, atL]
  refine step_waitS 0 7 rfl (by decide) (by rfl) (by rfl) ?_
  refine step_waitR 0 7 rfl (by decide) (by rfl) (by rfl) ?_
  refine step_waitS 0 8 rfl (by decide) (by rfl) (by rfl) ?_
  refine step_waitR 0 8 rfl (by decide) (by rfl) (by rfl) ?_
  exact wp_done (h _)

theorem part15 {w w2 : BitVec 32} {Kt : _ → sProp (MT nD τ sig Unit (Elt F) ℕ UU ℕ)}
    (h : ∀ r, iprop(WaitSt sv K 0 11 11 c ∗ R) ⊢ Kt r) :
    iprop(WaitSt sv K 0 9 9 c ∗ R) ⊢ WP c (atL (k0_part15 (F := F)) c w w2) Kt := by
  rw [k0_part15_eq_skeleton]; unfold k0_part15_skel
  simp only [semSignalWord, semWaitWord, Prog.lift, Prog.bind_op, Prog.bind_ret, Prog.pure_eq_ret, wp_deviceId, atL]
  refine step_waitS 0 9 rfl (by decide) (by rfl) (by rfl) ?_
  refine step_waitR 0 9 rfl (by decide) (by rfl) (by rfl) ?_
  refine step_waitS 0 10 rfl (by decide) (by rfl) (by rfl) ?_
  refine step_waitR 0 10 rfl (by decide) (by rfl) (by rfl) ?_
  exact wp_done (h _)

theorem part16 {w w2 : BitVec 32} {Kt : _ → sProp (MT nD τ sig Unit (Elt F) ℕ UU ℕ)}
    (h : ∀ r, iprop(WaitSt sv K 0 13 13 c ∗ R) ⊢ Kt r) :
    iprop(WaitSt sv K 0 11 11 c ∗ R) ⊢ WP c (atL (k0_part16 (F := F)) c w w2) Kt := by
  rw [k0_part16_eq_skeleton]; unfold k0_part16_skel
  simp only [semSignalWord, semWaitWord, Prog.lift, Prog.bind_op, Prog.bind_ret, Prog.pure_eq_ret, wp_deviceId, atL]
  refine step_waitS 0 11 rfl (by decide) (by rfl) (by rfl) ?_
  refine step_waitR 0 11 rfl (by decide) (by rfl) (by rfl) ?_
  refine step_waitS 0 12 rfl (by decide) (by rfl) (by rfl) ?_
  refine step_waitR 0 12 rfl (by decide) (by rfl) (by rfl) ?_
  exact wp_done (h _)

theorem part17 {w w2 : BitVec 32} {Kt : _ → sProp (MT nD τ sig Unit (Elt F) ℕ UU ℕ)}
    (h : ∀ r, iprop(WaitSt sv K 0 15 15 c ∗ R) ⊢ Kt r) :
    iprop(WaitSt sv K 0 13 13 c ∗ R) ⊢ WP c (atL (k0_part17 (F := F)) c w w2) Kt := by
  rw [k0_part17_eq_skeleton]; unfold k0_part17_skel
  simp only [semSignalWord, semWaitWord, Prog.lift, Prog.bind_op, Prog.bind_ret, Prog.pure_eq_ret, wp_deviceId, atL]
  refine step_waitS 0 13 rfl (by decide) (by rfl) (by rfl) ?_
  refine step_waitR 0 13 rfl (by decide) (by rfl) (by rfl) ?_
  refine step_waitS 0 14 rfl (by decide) (by rfl) (by rfl) ?_
  refine step_waitR 0 14 rfl (by decide) (by rfl) (by rfl) ?_
  exact wp_done (h _)

/-! ## The experts are applied -/

/-- The weights staged, and what phase 0 leaves. -/
def Mid (sv : Sent F) (c : Dev nD) (u : S2x512x1024.Idx → Elt F .bf16) (v : S2x1024x512.Idx → Elt F .bf16) : sProp (MT nD τ sig Unit (Elt F) ℕ UU ℕ) :=
  iprop(has c cc0_stg2_0 u ∗ has c cc0_stg3_0 v ∗ Done c 0 ∗ atPos ER (locCell c) 1 ∅ 0 ∗ reached ER (locCell c) 1
    ∗ owns (c : Thread nD τ) (sM 0) fullShare (sv 0 c) ∗ has c cc0_scratch1 (recvX (sv 0) c))

theorem part18 [∀ e, Nonempty (Elt F e)] {w : BitVec 32} {u : S2x512x1024.Idx → Elt F .bf16} {v : S2x1024x512.Idx → Elt F .bf16} {Kt : _ → sProp (MT nD τ sig Unit (Elt F) ℕ UU ℕ)}
    (h : iprop((recs sv K ∗ owing c (ext 0 c)) ∗ Mid sv c u v ∗ R)
      ⊢ Kt ⟨k0_pay8 (recvX (sv 0) c) (w1a u) (w2a v), k0_pay9 (recvX (sv 0) c)⟩) :
    iprop(WaitSt sv K 0 15 15 c ∗ LocD sv 0 c ∗ has c cc0_stg2_0 u ∗ has c cc0_stg3_0 v ∗ R)
      ⊢ WP c (atL (k0_part18 (F := F)) c w) Kt := by
  rw [k0_part18_eq_skeleton]; unfold k0_part18_skel
  simp only [semSignalWord, semWaitWord, Prog.lift, Prog.bind_op, Prog.bind_ret, Prog.pure_eq_ret, wp_deviceId, atL]
  refine step_waitS 0 15 rfl (by decide) (by rfl) (by rfl) ?_
  refine step_waitR 0 15 rfl (by decide) (by rfl) (by rfl) ?_
  iintro ⟨HW, HL, Hu, Hv, HR⟩
  ihave HE := (phase_end (sv := sv) (K := K) c 0) $$ [HW HL]
  · isplitl [HW]; · iexact HW
    iexact HL
  icases HE with ⟨#Hr, HO, HD, Hal, Hrl, Hs, Hd⟩
  ihave Hd := (show (owns (c : Thread nD τ) (dM 0) fullShare (recvX (sv 0) c)) ⊢ has c cc0_scratch1 (recvX (sv 0) c) from
    Entails.of_eq (owns_whole (c : Thread nD τ) cc0_scratch1 fullShare (recvX (sv 0) c))) $$ Hd
  iapply (wp_load 𝒱₀ (c : Thread nD τ) none Set.univ (m := Memref.whole cc0_scratch1) (Finset.subset_univ _)) $$ Hd; iintro Hd
  iapply (wp_load 𝒱₀ (c : Thread nD τ) none Set.univ (m := Memref.whole cc0_stg2_0) (Finset.subset_univ _)) $$ Hu; iintro Hu
  iapply (wp_load 𝒱₀ (c : Thread nD τ) none Set.univ (m := Memref.whole cc0_stg3_0) (Finset.subset_univ _)) $$ Hv; iintro Hv
  rw [show (Memref.whole cc0_scratch1).view.readAt (Elt F) (Rect.unit (s := S16x64x512) ![0, 0, 0] S16x64x512.size
      inb_S16x64x512_S16x64x512_0_0_0).toLoadRect (recvX (sv 0) c) = recvX (sv 0) c from Memref.readAt_unit_zero (Elt F) cc0_scratch1 hz3 _ _]
  iapply (wp_done h)
  isplitl [HO]
  · isplitr; · iexact Hr
    iexact HO
  unfold Mid
  isplitr [HR]
  · isplitl [Hu]; · iexact Hu
    isplitl [Hv]; · iexact Hv
    isplitl [HD]; · iexact HD
    isplitl [Hal]; · iexact Hal
    isplitl [Hrl]; · iexact Hrl
    isplitl [Hs] <;> iassumption
  iexact HR

theorem part19 {v2 : BitVec 32} {v520 : FVec F S16x32x512 .bf16} {v522 : FVec F S512x512 .bf16}
    {u : S2x512x1024.Idx → Elt F .bf16} {v : S2x1024x512.Idx → Elt F .bf16} {f : S16x64x512.Idx → Elt F .bf16}
    (hs : sv 1 c = k0_pay10 v520 v522 (w1b u) (w2b v)) {Kt : _ → sProp (MT nD τ sig Unit (Elt F) ℕ UU ℕ)}
    (h : ∀ r, iprop(SendSt sv K 1 2 c ∗ LocW 1 c ∗ has c cc0_stg2_0 u ∗ has c cc0_stg3_0 v ∗ R) ⊢ Kt r) :
    iprop((recs sv K ∗ owing c (ext 0 c)) ∗ has c cc0_stg2_0 u ∗ has c cc0_stg3_0 v ∗ has c cc0_scratch2 f ∗ Pool c 1 ∗ R)
      ⊢ WP c (atL (k0_part19 (F := F)) c v2 v520 v522) Kt := by
  rw [k0_part19_eq_skeleton]; unfold k0_part19_skel
  simp only [semSignalWord, semWaitWord, Prog.lift, Prog.bind_op, Prog.bind_ret, Prog.pure_eq_ret, wp_deviceId, atL]
  refine BIBase.Entails.trans ?_ (step_load (m := Memref.whole cc0_stg2_0) (v := w1b u)
    (R := iprop(has c cc0_stg3_0 v ∗ has c cc0_scratch2 f ∗ (recs sv K ∗ owing c (ext 0 c)) ∗ Pool c 1 ∗ R)) rfl ?_)
  · iintro ⟨HO, Hu, Hv, Hf, HP, HR⟩
    isplitl [Hu]; · iexact Hu
    isplitl [Hv]; · iexact Hv
    isplitl [Hf]; · iexact Hf
    isplitl [HO]; · iexact HO
    isplitl [HP] <;> iassumption
  refine (sep_left_comm.1).trans (step_load (m := Memref.whole cc0_stg3_0) (v := w2b v) rfl ?_)
  refine BIBase.Entails.trans ?_ (step_load (m := Memref.whole cc0_scratch2) (v := f)
    (R := iprop((recs sv K ∗ owing c (ext 0 c)) ∗ has c cc0_stg2_0 u ∗ has c cc0_stg3_0 v ∗ Pool c 1 ∗ R))
    (Memref.readAt_unit_zero (Elt F) cc0_scratch2 hz3 _ f) ?_)
  · iintro ⟨Hv, Hu, Hf, HO, HP, HR⟩
    isplitl [Hf]; · iexact Hf
    isplitl [HO]; · iexact HO
    isplitl [Hu]; · iexact Hu
    isplitl [Hv]; · iexact Hv
    isplitl [HP] <;> iassumption
  refine step_store (m := Memref.whole cc0_scratch2)
    ((Memref.write_access_unit_zero_univ (Elt F) cc0_scratch2 hz3 _ f (k0_pay10 v520 v522 (w1b u) (w2b v))).trans hs.symm) ?_
  refine BIBase.Entails.trans ?_ (step_copy (sv := sv) (K := K) 1 (R := iprop(SendSt sv K 1 1 c ∗ has c cc0_stg2_0 u ∗ has c cc0_stg3_0 v ∗ R))
    (slot_eq _ _ _ (k0_off1_eq c)) (slot_eq _ _ _ (k0_off1_eq c)) rfl ?_)
  · iintro ⟨Hf, ⟨#Hr, HO⟩, Hu, Hv, HP, HR⟩
    ihave Hph := (phase_start (sv := sv) (K := K) c 1) $$ [HO Hf HP]
    · isplitr; · iexact Hr
      isplitl [HO]
      · rw [show ext 1 c + debR 1 1 c = ext 0 c from zero_add _]; iexact HO
      isplitl [Hf]
      · iapply (Entails.of_eq (owns_whole (c : Thread nD τ) cc0_scratch2 fullShare (sv 1 c)).symm); iexact Hf
      iexact HP
    icases Hph with ⟨HL, HS⟩
    isplitl [HL]; · iexact HL
    isplitl [HS]; · iexact HS
    isplitl [Hu]; · iexact Hu
    isplitl [Hv] <;> iassumption
  refine BIBase.Entails.trans (Q := iprop(SendSt sv K 1 1 c ∗ LocW 1 c ∗ has c cc0_stg2_0 u ∗ has c cc0_stg3_0 v ∗ R)) ?_ ?_
  · iintro ⟨⟨-, HL⟩, HS, HR⟩
    isplitl [HS]; · iexact HS
    isplitl [HL] <;> iassumption
  refine step_send 1 1 rfl (by decide) (Fin.ext (k0_dev31_eq c)) (slot_eq _ _ _ (k0_off2_eq c 0)) (slot_eq _ _ _ (k0_off1_eq c)) rfl rfl ?_
  exact wp_done (h _)

/-! ## The second exchange -/

theorem part20 {v2 w : BitVec 32} {Kt : _ → sProp (MT nD τ sig Unit (Elt F) ℕ UU ℕ)}
    (h : ∀ r, iprop(SendSt sv K 1 4 c ∗ R) ⊢ Kt r) :
    iprop(SendSt sv K 1 2 c ∗ R) ⊢ WP c (atL (k0_part20 (F := F)) c v2 w) Kt := by
  rw [k0_part20_eq_skeleton]; unfold k0_part20_skel
  simp only [semSignalWord, semWaitWord, Prog.lift, Prog.bind_op, Prog.bind_ret, Prog.pure_eq_ret, wp_deviceId, atL]
  refine step_send 1 2 rfl (by decide) (Fin.ext (k0_dev32_eq c)) (slot_eq _ _ _ (k0_off2_eq c 1)) (slot_eq _ _ _ (k0_off1_eq c)) rfl rfl ?_
  refine step_send 1 3 rfl (by decide) (Fin.ext (k0_dev33_eq c)) (slot_eq _ _ _ (k0_off2_eq c 2)) (slot_eq _ _ _ (k0_off1_eq c)) rfl rfl ?_
  exact wp_done (h _)

theorem part21 {v2 : BitVec 32} {Kt : _ → sProp (MT nD τ sig Unit (Elt F) ℕ UU ℕ)}
    (h : ∀ r, iprop(SendSt sv K 1 7 c ∗ R) ⊢ Kt r) :
    iprop(SendSt sv K 1 4 c ∗ R) ⊢ WP c (atL (k0_part21 (F := F)) c v2) Kt := by
  rw [k0_part21_eq_skeleton]; unfold k0_part21_skel
  simp only [semSignalWord, semWaitWord, Prog.lift, Prog.bind_op, Prog.bind_ret, Prog.pure_eq_ret, wp_deviceId, atL]
  refine step_send 1 4 rfl (by decide) (Fin.ext (k0_dev34_eq c)) (slot_eq _ _ _ (k0_off2_eq c 3)) (slot_eq _ _ _ (k0_off1_eq c)) rfl rfl ?_
  refine step_send 1 5 rfl (by decide) (Fin.ext (k0_dev35_eq c)) (slot_eq _ _ _ (k0_off2_eq c 4)) (slot_eq _ _ _ (k0_off1_eq c)) rfl rfl ?_
  refine step_send 1 6 rfl (by decide) (Fin.ext (k0_dev36_eq c)) (slot_eq _ _ _ (k0_off2_eq c 5)) (slot_eq _ _ _ (k0_off1_eq c)) rfl rfl ?_
  exact wp_done (h _)

theorem part22 {v2 w : BitVec 32} {Kt : _ → sProp (MT nD τ sig Unit (Elt F) ℕ UU ℕ)}
    (h : ∀ r, iprop(SendSt sv K 1 9 c ∗ R) ⊢ Kt r) :
    iprop(SendSt sv K 1 7 c ∗ R) ⊢ WP c (atL (k0_part22 (F := F)) c v2 w) Kt := by
  rw [k0_part22_eq_skeleton]; unfold k0_part22_skel
  simp only [semSignalWord, semWaitWord, Prog.lift, Prog.bind_op, Prog.bind_ret, Prog.pure_eq_ret, wp_deviceId, atL]
  refine step_send 1 7 rfl (by decide) (Fin.ext (k0_dev37_eq c)) (slot_eq _ _ _ (k0_off2_eq c 6)) (slot_eq _ _ _ (k0_off1_eq c)) rfl rfl ?_
  refine step_send 1 8 rfl (by decide) (Fin.ext (k0_dev38_eq c)) (slot_eq _ _ _ (k0_off2_eq c 7)) (slot_eq _ _ _ (k0_off1_eq c)) rfl rfl ?_
  exact wp_done (h _)

theorem part23 {v2 : BitVec 32} {Kt : _ → sProp (MT nD τ sig Unit (Elt F) ℕ UU ℕ)}
    (h : ∀ r, iprop(SendSt sv K 1 12 c ∗ R) ⊢ Kt r) :
    iprop(SendSt sv K 1 9 c ∗ R) ⊢ WP c (atL (k0_part23 (F := F)) c v2) Kt := by
  rw [k0_part23_eq_skeleton]; unfold k0_part23_skel
  simp only [semSignalWord, semWaitWord, Prog.lift, Prog.bind_op, Prog.bind_ret, Prog.pure_eq_ret, wp_deviceId, atL]
  refine step_send 1 9 rfl (by decide) (Fin.ext (k0_dev39_eq c)) (slot_eq _ _ _ (k0_off2_eq c 8)) (slot_eq _ _ _ (k0_off1_eq c)) rfl rfl ?_
  refine step_send 1 10 rfl (by decide) (Fin.ext (k0_dev40_eq c)) (slot_eq _ _ _ (k0_off2_eq c 9)) (slot_eq _ _ _ (k0_off1_eq c)) rfl rfl ?_
  refine step_send 1 11 rfl (by decide) (Fin.ext (k0_dev41_eq c)) (slot_eq _ _ _ (k0_off2_eq c 10)) (slot_eq _ _ _ (k0_off1_eq c)) rfl rfl ?_
  exact wp_done (h _)

theorem part24 {v2 : BitVec 32} {Kt : _ → sProp (MT nD τ sig Unit (Elt F) ℕ UU ℕ)}
    (h : ∀ r, iprop(SendSt sv K 1 15 c ∗ R) ⊢ Kt r) :
    iprop(SendSt sv K 1 12 c ∗ R) ⊢ WP c (atL (k0_part24 (F := F)) c v2) Kt := by
  rw [k0_part24_eq_skeleton]; unfold k0_part24_skel
  simp only [semSignalWord, semWaitWord, Prog.lift, Prog.bind_op, Prog.bind_ret, Prog.pure_eq_ret, wp_deviceId, atL]
  refine step_send 1 12 rfl (by decide) (Fin.ext (k0_dev42_eq c)) (slot_eq _ _ _ (k0_off2_eq c 11)) (slot_eq _ _ _ (k0_off1_eq c)) rfl rfl ?_
  refine step_send 1 13 rfl (by decide) (Fin.ext (k0_dev43_eq c)) (slot_eq _ _ _ (k0_off2_eq c 12)) (slot_eq _ _ _ (k0_off1_eq c)) rfl rfl ?_
  refine step_send 1 14 rfl (by decide) (Fin.ext (k0_dev44_eq c)) (slot_eq _ _ _ (k0_off2_eq c 13)) (slot_eq _ _ _ (k0_off1_eq c)) rfl rfl ?_
  exact wp_done (h _)

theorem part25 {w w2 : BitVec 32} {Kt : _ → sProp (MT nD τ sig Unit (Elt F) ℕ UU ℕ)}
    (h : ∀ r, iprop(WaitSt sv K 1 2 1 c ∗ LocD sv 1 c ∗ R) ⊢ Kt r) :
    iprop(SendSt sv K 1 15 c ∗ LocW 1 c ∗ Pos c 1 ∗ R) ⊢ WP c (atL (k0_part25 (F := F)) c w w2) Kt := by
  rw [k0_part25_eq_skeleton]; unfold k0_part25_skel
  simp only [semSignalWord, semWaitWord, Prog.lift, Prog.bind_op, Prog.bind_ret, Prog.pure_eq_ret, wp_deviceId, atL]
  refine step_send 1 15 rfl (by decide) (Fin.ext (k0_dev45_eq c)) (slot_eq _ _ _ (k0_off2_eq c 14)) (slot_eq _ _ _ (k0_off1_eq c)) rfl rfl ?_
  refine (sep_left_comm.1).trans ?_
  iintro ⟨HL, HS, HP, HR⟩
  ihave HW := (phase_mid (sv := sv) (K := K) c 1) $$ [HS HP]
  · isplitl [HS]; · iexact HS
    iexact HP
  iapply (step_waitLoc 1 (by rfl) (by rfl) ((sep_assoc.1).trans (step_waitS 1 1 rfl (by decide) (by rfl) (by rfl) (wp_done (h _)))))
  isplitl [HW HL]
  · isplitl [HW] <;> iassumption
  iexact HR

theorem part26 {w w2 : BitVec 32} {Kt : _ → sProp (MT nD τ sig Unit (Elt F) ℕ UU ℕ)}
    (h : ∀ r, iprop(WaitSt sv K 1 4 3 c ∗ R) ⊢ Kt r) :
    iprop(WaitSt sv K 1 2 1 c ∗ R) ⊢ WP c (atL (k0_part26 (F := F)) c w w2) Kt := by
  rw [k0_part26_eq_skeleton]; unfold k0_part26_skel
  simp only [semSignalWord, semWaitWord, Prog.lift, Prog.bind_op, Prog.bind_ret, Prog.pure_eq_ret, wp_deviceId, atL]
  refine step_waitR 1 1 rfl (by decide) (by rfl) (by rfl) ?_
  refine step_waitS 1 2 rfl (by decide) (by rfl) (by rfl) ?_
  refine step_waitR 1 2 rfl (by decide) (by rfl) (by rfl) ?_
  refine step_waitS 1 3 rfl (by decide) (by rfl) (by rfl) ?_
  exact wp_done (h _)

theorem part27 {w w2 : BitVec 32} {Kt : _ → sProp (MT nD τ sig Unit (Elt F) ℕ UU ℕ)}
    (h : ∀ r, iprop(WaitSt sv K 1 6 5 c ∗ R) ⊢ Kt r) :
    iprop(WaitSt sv K 1 4 3 c ∗ R) ⊢ WP c (atL (k0_part27 (F := F)) c w w2) Kt := by
  rw [k0_part27_eq_skeleton]; unfold k0_part27_skel
  simp only [semSignalWord, semWaitWord, Prog.lift, Prog.bind_op, Prog.bind_ret, Prog.pure_eq_ret, wp_deviceId, atL]
  refine step_waitR 1 3 rfl (by decide) (by rfl) (by rfl) ?_
  refine step_waitS 1 4 rfl (by decide) (by rfl) (by rfl) ?_
  refine step_waitR 1 4 rfl (by decide) (by rfl) (by rfl) ?_
  refine step_waitS 1 5 rfl (by decide) (by rfl) (by rfl) ?_
  exact wp_done (h _)

theorem part28 {w w2 : BitVec 32} {Kt : _ → sProp (MT nD τ sig Unit (Elt F) ℕ UU ℕ)}
    (h : ∀ r, iprop(WaitSt sv K 1 8 7 c ∗ R) ⊢ Kt r) :
    iprop(WaitSt sv K 1 6 5 c ∗ R) ⊢ WP c (atL (k0_part28 (F := F)) c w w2) Kt := by
  rw [k0_part28_eq_skeleton]; unfold k0_part28_skel
  simp only [semSignalWord, semWaitWord, Prog.lift, Prog.bind_op, Prog.bind_ret, Prog.pure_eq_ret, wp_deviceId, atL]
  refine step_waitR 1 5 rfl (by decide) (by rfl) (by rfl) ?_
  refine step_waitS 1 6 rfl (by decide) (by rfl) (by rfl) ?_
  refine step_waitR 1 6 rfl (by decide) (by rfl) (by rfl) ?_
  refine step_waitS 1 7 rfl (by decide) (by rfl) (by rfl) ?_
  exact wp_done (h _)

theorem part29 {w w2 : BitVec 32} {Kt : _ → sProp (MT nD τ sig Unit (Elt F) ℕ UU ℕ)}
    (h : ∀ r, iprop(WaitSt sv K 1 10 9 c ∗ R) ⊢ Kt r) :
    iprop(WaitSt sv K 1 8 7 c ∗ R) ⊢ WP c (atL (k0_part29 (F := F)) c w w2) Kt := by
  rw [k0_part29_eq_skeleton]; unfold k0_part29_skel
  simp only [semSignalWord, semWaitWord, Prog.lift, Prog.bind_op, Prog.bind_ret, Prog.pure_eq_ret, wp_deviceId, atL]
  refine step_waitR 1 7 rfl (by decide) (by rfl) (by rfl) ?_
  refine step_waitS 1 8 rfl (by decide) (by rfl) (by rfl) ?_
  refine step_waitR 1 8 rfl (by decide) (by rfl) (by rfl) ?_
  refine step_waitS 1 9 rfl (by decide) (by rfl) (by rfl) ?_
  exact wp_done (h _)

theorem part30 {w w2 : BitVec 32} {Kt : _ → sProp (MT nD τ sig Unit (Elt F) ℕ UU ℕ)}
    (h : ∀ r, iprop(WaitSt sv K 1 12 11 c ∗ R) ⊢ Kt r) :
    iprop(WaitSt sv K 1 10 9 c ∗ R) ⊢ WP c (atL (k0_part30 (F := F)) c w w2) Kt := by
  rw [k0_part30_eq_skeleton]; unfold k0_part30_skel
  simp only [semSignalWord, semWaitWord, Prog.lift, Prog.bind_op, Prog.bind_ret, Prog.pure_eq_ret, wp_deviceId, atL]
  refine step_waitR 1 9 rfl (by decide) (by rfl) (by rfl) ?_
  refine step_waitS 1 10 rfl (by decide) (by rfl) (by rfl) ?_
  refine step_waitR 1 10 rfl (by decide) (by rfl) (by rfl) ?_
  refine step_waitS 1 11 rfl (by decide) (by rfl) (by rfl) ?_
  exact wp_done (h _)

theorem part31 {w w2 : BitVec 32} {Kt : _ → sProp (MT nD τ sig Unit (Elt F) ℕ UU ℕ)}
    (h : ∀ r, iprop(WaitSt sv K 1 14 13 c ∗ R) ⊢ Kt r) :
    iprop(WaitSt sv K 1 12 11 c ∗ R) ⊢ WP c (atL (k0_part31 (F := F)) c w w2) Kt := by
  rw [k0_part31_eq_skeleton]; unfold k0_part31_skel
  simp only [semSignalWord, semWaitWord, Prog.lift, Prog.bind_op, Prog.bind_ret, Prog.pure_eq_ret, wp_deviceId, atL]
  refine step_waitR 1 11 rfl (by decide) (by rfl) (by rfl) ?_
  refine step_waitS 1 12 rfl (by decide) (by rfl) (by rfl) ?_
  refine step_waitR 1 12 rfl (by decide) (by rfl) (by rfl) ?_
  refine step_waitS 1 13 rfl (by decide) (by rfl) (by rfl) ?_
  exact wp_done (h _)

theorem part32 {w w2 : BitVec 32} {Kt : _ → sProp (MT nD τ sig Unit (Elt F) ℕ UU ℕ)}
    (h : ∀ r, iprop(WaitSt sv K 1 16 15 c ∗ R) ⊢ Kt r) :
    iprop(WaitSt sv K 1 14 13 c ∗ R) ⊢ WP c (atL (k0_part32 (F := F)) c w w2) Kt := by
  rw [k0_part32_eq_skeleton]; unfold k0_part32_skel
  simp only [semSignalWord, semWaitWord, Prog.lift, Prog.bind_op, Prog.bind_ret, Prog.pure_eq_ret, wp_deviceId, atL]
  refine step_waitR 1 13 rfl (by decide) (by rfl) (by rfl) ?_
  refine step_waitS 1 14 rfl (by decide) (by rfl) (by rfl) ?_
  refine step_waitR 1 14 rfl (by decide) (by rfl) (by rfl) ?_
  refine step_waitS 1 15 rfl (by decide) (by rfl) (by rfl) ?_
  exact wp_done (h _)

end Cert.KernelIdealProof

end
-- ==== Proof.KernelIdealBody.lean ====
/-
# 01_k — the kernel's body, from its start to its end (KernelIdeal)

What a device's body starts from and ends with, the two contents each device sends named by a hypothesis; the parts of
`KernelIdealParts` composed in program order.
-/
module

public import proofs.«01_k».proof.Proof.KernelIdealParts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## All of a device's cells -/

section All
variable {M : Type} [URA M]
theorem big_four (Φ : Fin 4 → sProp M) : bigSep Finset.univ Φ = iprop(Φ 0 ∗ Φ 1 ∗ Φ 2 ∗ Φ 3) :=
  bigSep_univ_eq_bigSepL [0, 1, 2, 3] (by decide) (by decide) Φ
/-- Over a device's own semaphores: each array's index 0, each array's others, the local one. -/
theorem big_KI (Φ : KI → sProp M) : bigSep Finset.univ Φ
    = iprop(((bigSep Finset.univ fun a : Fin 4 => Φ (.inl (a, 0)))
      ∗ (bigSep (ge 1) fun o => Φ (.inl (0, o))) ∗ (bigSep (ge 1) fun o => Φ (.inl (1, o)))
      ∗ (bigSep (ge 1) fun o => Φ (.inl (2, o))) ∗ (bigSep (ge 1) fun o => Φ (.inl (3, o)))) ∗ Φ (.inr ())) := by
  rw [bigSep_univ_sum, bigSep_univ_of_subsingleton (), bigSep_univ_prod]
  rw [bigSep_congr (s := Finset.univ) (fun (a : Fin 4) _ => big_zero (fun o => Φ (.inl (a, o)))), bigSep_sep']
  rw [big_four (fun a => bigSep (ge 1) fun o => Φ (.inl (a, o)))]
  rfl
theorem big_CI (Φ : CI → sProp M) : bigSep Finset.univ Φ
    = iprop((((bigSep Finset.univ fun a : Fin 4 => Φ (xI a 0))
      ∗ (bigSep (ge 1) fun o => Φ (xI 0 o)) ∗ (bigSep (ge 1) fun o => Φ (xI 1 o))
      ∗ (bigSep (ge 1) fun o => Φ (xI 2 o)) ∗ (bigSep (ge 1) fun o => Φ (xI 3 o))) ∗ Φ locI) ∗ Φ barI) := by
  rw [bigSep_univ_sum, bigSep_univ_of_subsingleton (), big_KI]
  rfl
end All

variable {sv : Sent F} {K : Dev nD × CI → ℕ} {c : Dev nD}

/-- The round each cell ends at. -/
def lastRound : CI → ℕ
  | .inr _ => 1
  | .inl (.inr _) => 2
  | .inl (.inl (_, o)) => if o = 0 then 0 else 1

omit [FloatOps F] in
/-- At its last round a cell is closed: its counter is zero. -/
theorem close_all : iprop(recs sv K ∗ bigSep Finset.univ fun k : CI => atPos ER (kcell (c, k)) (lastRound k) ∅ 0)
    ⊢ |={Set.univ}=> (bigSep Finset.univ fun k : CI => semVal (kcell (c, k)) 0 : sProp (MT nD τ sig Unit (Elt F) ℕ UU ℕ)) := by
  refine ((sep_mono_left (BI.bigSep_of_persistent (Finset.univ : Finset CI) (recs sv K))).trans ?_).trans (bigSep_fupd Finset.univ _)
  rw [← bigSep_sep']
  refine bigSep_mono fun k _ => ?_
  refine BIBase.Entails.trans ?_ (cell_close ER (rd sv) (κ := K (c, k)) (Set.mem_univ _) (fun h => h) (R := lastRound k) ?_)
  · iintro ⟨#Hr, Ha⟩
    isplitr
    · iapply (recs_inv sv K c k); iexact Hr
    iexact Ha
  · rcases k with (⟨a, o⟩ | _) | _
    · unfold lastRound
      by_cases ho : o = 0
      · subst ho; exact fun r _ => duties_x0 sv c a r (Nat.zero_le _)
      · dsimp only; rw [if_neg ho]; exact duties_one sv c (xI a o) (by intro h; cases h)
    · exact duties_later sv _
    · exact duties_one sv c barI (by intro h; cases h)

/-! ## The start and the end of the body -/

/-- The tokens a device pays with. -/
def Toks (c : Dev nD) : sProp (MT nD τ sig Unit (Elt F) ℕ UU ℕ) :=
  iprop((bigSep (ge 1) fun o => dutyTok ER (barCell (nx c o)) 0 (ng o))
    ∗ (bigSep (ge 1) fun o => dutyTok ER (xcell 0 o c) 0 0) ∗ (bigSep (ge 1) fun o => dutyTok ER (xcell 1 o (nx c o)) 0 0)
    ∗ (bigSep (ge 1) fun o => dutyTok ER (xcell 2 o c) 0 0) ∗ (bigSep (ge 1) fun o => dutyTok ER (xcell 3 o (nx c o)) 0 0)
    ∗ dutyTok ER (locCell c) 0 0 ∗ dutyTok ER (locCell c) 1 0)

/-- The credit for what the other devices owe it. -/
def Creds (c : Dev nD) : sProp (MT nD τ sig Unit (Elt F) ℕ UU ℕ) :=
  iprop(cred (tallyAt (barCell c) () 15) ∗ (bigSep (ge 1) fun o => cred (tallyAt (xcell 1 o c) () N))
    ∗ bigSep (ge 1) fun o => cred (tallyAt (xcell 3 o c) () N))

/-- The ghost state a device starts from. -/
def Ghost (sv : Sent F) (K : Dev nD × CI → ℕ) (c : Dev nD) : sProp (MT nD τ sig Unit (Elt F) ℕ UU ℕ) :=
  iprop(recs sv K ∗ (bigSep Finset.univ fun k : CI => atPos ER (kcell (c, k)) 0 ∅ 0) ∗ Toks c ∗ Creds c)

/-- The staged blocks; the four scratch buffers. -/
def Stg (c : Dev nD) (x : S512x512.Idx → Elt F .bf16) (a : S512x1.Idx → Elt F .i32) (u : S2x512x1024.Idx → Elt F .bf16)
    (v : S2x1024x512.Idx → Elt F .bf16) (g : S512x512.Idx → Elt F .f32) : sProp (MT nD τ sig Unit (Elt F) ℕ UU ℕ) :=
  iprop(has c cc0_stg0_0 x ∗ has c cc0_stg1_0 a ∗ has c cc0_stg2_0 u ∗ has c cc0_stg3_0 v ∗ has c cc0_stg4_0 g)
def Scr (c : Dev nD) (f : Fin 4 → S16x64x512.Idx → Elt F .bf16) : sProp (MT nD τ sig Unit (Elt F) ℕ UU ℕ) :=
  iprop(has c cc0_scratch0 (f 0) ∗ has c cc0_scratch1 (f 1) ∗ has c cc0_scratch2 (f 2) ∗ has c cc0_scratch3 (f 3))

/-- What the device's result is made from: its permutation and what came back. -/
def outV (a : S512x1.Idx → Elt F .i32) (r : S16x64x512.Idx → Elt F .bf16) : S512x512.Idx → Elt F .f32 :=
  k0_pay1 (k0_pay6 (k0_pay2 (F := F) a) (k0_pay3 a) k0_pay4 k0_pay5) r

/-- What phase 1 takes besides the slots the others handed over. -/
def Pre19 (c : Dev nD) : sProp (MT nD τ sig Unit (Elt F) ℕ UU ℕ) :=
  iprop(ownE c (slotM (dM 1) c) ∗ (bigSep (ge 1) fun o => dutyTok ER (xcell 2 o c) 0 0)
    ∗ (bigSep (ge 1) fun o => dutyTok ER (xcell 3 o (nx c o)) 0 0) ∗ dutyTok ER (locCell c) 1 0)

/-- What stays untouched until the end. -/
def Idle (c : Dev nD) : sProp (MT nD τ sig Unit (Elt F) ℕ UU ℕ) := bigSep Finset.univ fun a : Fin 4 => atPos ER (xcell a 0 c) 0 ∅ 0

omit [FloatOps F] in
/-- A destination buffer cut into its slots: the own one and those handed over at the barrier. -/
theorem dest_slots (b : Memref sig .tc .vmem S16x64x512 .bf16) (f : S16x64x512.Idx → Elt F .bf16) :
    owns (c : Thread nD τ) b fullShare f ⊢ (iprop(ownE c (slotM b c) ∗ bigSep (ge 1) fun o => ownE c (slotM b (nx c o))) : sProp (MT nD τ sig Unit (Elt F) ℕ UU ℕ)) :=
  (ownE_slots c b f).trans (Entails.of_eq (big_nx c fun j => ownE c (slotM b j)))

omit [FloatOps F] in
/-- The start, sorted by where each thing is used. -/
theorem start_sort (f : Fin 4 → S16x64x512.Idx → Elt F .bf16) :
    iprop(Ghost sv K c ∗ owing c (O₀ c) ∗ Scr c f)
      ⊢ iprop(SigSt sv K 1 c ∗ has c cc0_scratch0 (f 0) ∗ Pre4 c ∗ Pos c 0 ∗ has c cc0_scratch2 (f 2) ∗ Pre19 c ∗ Pos c 1 ∗ Idle c) := by
  unfold Ghost Toks Creds Scr SigSt Pre4 Pos Pre19 Idle
  rw [big_CI]
  iintro ⟨⟨#Hr, ⟨⟨⟨Hz, H0, H1, H2, H3⟩, Hl⟩, Hb⟩, ⟨Tb, T0, T1, T2, T3, Tl0, Tl1⟩, Cb, C1, C3⟩, HO, S0, S1, S2, S3⟩
  ihave D0 := (show has c cc0_scratch1 (f 1) ⊢ _ from
    (Entails.of_eq (owns_whole (c : Thread nD τ) cc0_scratch1 fullShare (f 1)).symm).trans (dest_slots (dM 0) (f 1))) $$ S1
  ihave D1 := (show has c cc0_scratch3 (f 3) ⊢ _ from
    (Entails.of_eq (owns_whole (c : Thread nD τ) cc0_scratch3 fullShare (f 3)).symm).trans (dest_slots (dM 1) (f 3))) $$ S3
  icases D0 with ⟨D00, D0⟩
  icases D1 with ⟨D10, D1⟩
  isplitl [HO Tb D0 D1]
  · isplitr; · iexact Hr
    isplitl [HO]; · iexact HO
    rw [bigSep_sep', bigSep_sep']
    isplitl [Tb]; · iexact Tb
    isplitl [D0] <;> iassumption
  isplitl [S0]; · iexact S0
  isplitl [Hb Cb D00 T0 T1 Tl0 Hl]
  · isplitl [Hb]; · iexact Hb
    isplitl [Cb]; · iexact Cb
    isplitl [D00]; · iexact D00
    isplitl [T0]; · iexact T0
    isplitl [T1]; · iexact T1
    isplitl [Tl0]; · iexact Tl0
    iexact Hl
  isplitl [H0 H1 C1]
  · isplitl [H0]; · iexact H0
    rw [bigSep_sep']
    isplitl [C1]; · iexact C1
    iexact H1
  isplitl [S2]; · iexact S2
  isplitl [D10 T2 T3 Tl1]
  · isplitl [D10]; · iexact D10
    isplitl [T2]; · iexact T2
    isplitl [T3]; · iexact T3
    iexact Tl1
  isplitl [H2 H3 C3]
  · isplitl [H2]; · iexact H2
    rw [bigSep_sep']
    isplitl [C3]; · iexact C3
    iexact H3
  iexact Hz

omit [FloatOps F] in
/-- At the end every cell is at its last round. -/
theorem end_sort :
    iprop(Idle c ∗ atPos ER (barCell c) 1 ∅ 0 ∗ atPos ER (locCell c) 2 ∅ 0 ∗ Done c 0 ∗ Done c 1)
      ⊢ (bigSep Finset.univ fun k : CI => atPos ER (kcell (c, k)) (lastRound k) ∅ 0 : sProp (MT nD τ sig Unit (Elt F) ℕ UU ℕ)) := by
  have e : ∀ a : Fin 4, (bigSep (ge 1) fun o => atPos ER (kcell (c, xI a o)) (lastRound (xI a o)) ∅ 0 : sProp (MT nD τ sig Unit (Elt F) ℕ UU ℕ))
      = bigSep (ge 1) fun o => atPos ER (xcell a o c) 1 ∅ 0 := fun a =>
    bigSep_congr fun o ho => by
      have h : lastRound (xI a o) = 1 := if_neg (fun h => by rw [mem_ge, h] at ho; exact absurd ho (by decide))
      rw [h]; rfl
  unfold Idle Done
  rw [big_CI, e, e, e, e]
  iintro ⟨Hz, Hb, Hl, ⟨H0, H1⟩, H2, H3⟩
  isplitr [Hb]
  · isplitr [Hl]
    · isplitl [Hz]; · iexact Hz
      isplitl [H0]; · iexact H0
      isplitl [H1]; · iexact H1
      isplitl [H2]; · iexact H2
      iexact H3
    iexact Hl
  iexact Hb

theorem bind_step {α β : Type} {P : sProp (MT nD τ sig Unit (Elt F) ℕ UU ℕ)} {p : Prog (TpuEff nD τ sig (Elt F) Λ₀ .tc) α}
    {k : α → Prog (TpuEff nD τ sig (Elt F) Λ₀ .tc) β} {Q : β → sProp (MT nD τ sig Unit (Elt F) ℕ UU ℕ)} (h : P ⊢ WP c p fun r => WP c (k r) Q) :
    P ⊢ WP c (p >>= k) Q := by
  exact h.trans (Entails.of_eq (Idealize.SL.Sem.wp_bind _ _ _ p k Q).symm)

/-- The parts of the kernel at the launch's memrefs, and the whole. -/
abbrev bodyL : Prog (TpuEff nD τ sig (Elt F) Λ₀ .tc) PUnit := atL (cc0_body (F := F))

section Body

variable [∀ e, Nonempty (Elt F e)]

set_option maxHeartbeats 1600000 in
/-- The body: from the ghost state, the staged blocks and the scratch buffers, to the result, every cell closed. -/
theorem body_run {x : S512x512.Idx → Elt F .bf16} {a : S512x1.Idx → Elt F .i32} {u : S2x512x1024.Idx → Elt F .bf16}
    {v : S2x1024x512.Idx → Elt F .bf16} {g : S512x512.Idx → Elt F .f32} {f : Fin 4 → S16x64x512.Idx → Elt F .bf16}
    (hs0 : sv 0 c = k0_pay7 (k0_pay2 (F := F) a) (k0_pay3 a) k0_pay4 k0_pay5 x)
    (hs1 : sv 1 c = k0_pay10 (k0_pay8 (recvX (sv 0) c) (w1a u) (w2a v)) (k0_pay9 (recvX (sv 0) c)) (w1b u) (w2b v)) :
    iprop(Ghost sv K c ∗ owing c (O₀ c) ∗ Scr c f ∗ Stg c x a u v g)
      ⊢ WP c bodyL fun _ => iprop(owing c 0 ∗ (bigSep Finset.univ fun k : CI => semVal (kcell (c, k)) 0)
          ∗ (∃ f, Scr c f) ∗ Stg c x a u v (outV a (recvX (sv 1) c))) := by
  rw [show (bodyL : Prog (TpuEff nD τ sig (Elt F) Λ₀ .tc) PUnit) = atL (cc0_body_skel (F := F)) from by rw [← cc0_body_eq_skeleton]]
  unfold cc0_body_skel atL
  refine BIBase.Entails.trans ?_ (bind_step (part1 (sv := sv) (K := K) (R := iprop(has c cc0_stg1_0 a ∗ has c cc0_stg0_0 x ∗ has c cc0_scratch0 (f 0) ∗ Pre4 c ∗ Pos c 0 ∗ has c cc0_scratch2 (f 2) ∗ Pre19 c ∗ Pos c 1 ∗ Idle c ∗ has c cc0_stg2_0 u ∗ has c cc0_stg3_0 v ∗ has c cc0_stg4_0 g)) fun v2 v24 w => bind_step (part2 fun r => ?_)))
  · iintro ⟨HG, HO, HF, HS⟩
    ihave H := (start_sort f) $$ [HG HO HF]
    · isplitl [HG]; · iexact HG
      isplitl [HO] <;> iassumption
    icases H with ⟨H0, H1, H2, H3, H4, H5, H6, H7⟩
    unfold Stg
    icases HS with ⟨S0, S1, S2, S3, S4⟩
    isplitl [H0]; · iexact H0
    isplitl [S1]; · iexact S1
    isplitl [S0]; · iexact S0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S2]; · iexact S2
    isplitl [S3]; · iexact S3
    iexact S4
  obtain ⟨v48, w'⟩ := r
  refine bind_step (part3 ?_)
  refine BIBase.Entails.trans ?_ (bind_step (part4 (sv := sv) (K := K) (x := x) (f := f 0) (R := iprop(has c cc0_stg1_0 a ∗ Pos c 0 ∗ has c cc0_scratch2 (f 2) ∗ Pre19 c ∗ Pos c 1 ∗ Idle c ∗ has c cc0_stg2_0 u ∗ has c cc0_stg3_0 v ∗ has c cc0_stg4_0 g)) hs0 fun v114 v115 => ?_))
  · iintro ⟨H0, S1, S0, H1, H2, H3, H4, H5, H6, H7, S2, S3, S4⟩
    isplitl [H0]; · iexact H0
    isplitl [S0]; · iexact S0
    isplitl [H1]; · iexact H1
    isplitl [H2]; · iexact H2
    isplitl [S1]; · iexact S1
    isplitl [H3]; · iexact H3
    isplitl [H4]; · iexact H4
    isplitl [H5]; · iexact H5
    isplitl [H6]; · iexact H6
    isplitl [H7]; · iexact H7
    isplitl [S2]; · iexact S2
    isplitl [S3]; · iexact S3
    iexact S4
  refine bind_step (part5 fun r => ?_); obtain ⟨_, _⟩ := r
  refine bind_step (part6 fun r => ?_); obtain ⟨_, _, _⟩ := r
  refine bind_step (part7 fun r => ?_); obtain ⟨_, _, _⟩ := r
  refine bind_step (part8 fun r => ?_); obtain ⟨_, _⟩ := r
  refine bind_step (part9 fun r => ?_); obtain ⟨_, _, _, _, _⟩ := r
  refine BIBase.Entails.trans ?_ (bind_step (part10 (sv := sv) (K := K) (R := iprop(has c cc0_stg0_0 x ∗ atPos ER (barCell c) 1 ∅ 0 ∗ (bigSep (ge 1) fun o => ownE (nx c o) (slotM (dM 1) c)) ∗ has c cc0_stg1_0 a ∗ has c cc0_scratch2 (f 2) ∗ Pre19 c ∗ Pos c 1 ∗ Idle c ∗ has c cc0_stg2_0 u ∗ has c cc0_stg3_0 v ∗ has c cc0_stg4_0 g)) fun v282 => ?_))
  · iintro ⟨A, B, S0, Hb, Hg, S1, H3, H4, H5, H6, H7, S2, S3, S4⟩
    isplitl [A]; · iexact A
    isplitl [B]; · iexact B
    isplitl [H3]; · iexact H3
    isplitl [S0]; · iexact S0
    isplitl [Hb]; · iexact Hb
    isplitl [Hg]; · iexact Hg
    isplitl [S1]; · iexact S1
    isplitl [H4]; · iexact H4
    isplitl [H5]; · iexact H5
    isplitl [H6]; · iexact H6
    isplitl [H7]; · iexact H7
    isplitl [S2]; · iexact S2
    isplitl [S3]; · iexact S3
    iexact S4
  refine bind_step (part11 fun _ => ?_)
  refine bind_step (part12 fun _ => ?_)
  refine bind_step (part13 fun _ => ?_)
  refine bind_step (part14 fun _ => ?_)
  refine bind_step (part15 fun _ => ?_)
  refine bind_step (part16 fun _ => ?_)
  refine bind_step (part17 fun _ => ?_)
  refine BIBase.Entails.trans ?_ (bind_step (part18 (sv := sv) (K := K) (u := u) (v := v) (R := iprop(has c cc0_stg0_0 x ∗ atPos ER (barCell c) 1 ∅ 0 ∗ (bigSep (ge 1) fun o => ownE (nx c o) (slotM (dM 1) c)) ∗ has c cc0_stg1_0 a ∗ has c cc0_scratch2 (f 2) ∗ Pre19 c ∗ Pos c 1 ∗ Idle c ∗ has c cc0_stg4_0 g)) ?_))
  · iintro ⟨A, B, S0, Hb, Hg, S1, H4, H5, H6, H7, S2, S3, S4⟩
    isplitl [A]; · iexact A
    isplitl [B]; · iexact B
    isplitl [S2]; · iexact S2
    isplitl [S3]; · iexact S3
    isplitl [S0]; · iexact S0
    isplitl [Hb]; · iexact Hb
    isplitl [Hg]; · iexact Hg
    isplitl [S1]; · iexact S1
    isplitl [H4]; · iexact H4
    isplitl [H5]; · iexact H5
    isplitl [H6]; · iexact H6
    isplitl [H7]; · iexact H7
    iexact S4
  refine BIBase.Entails.trans ?_ (bind_step (part19 (sv := sv) (K := K) (u := u) (v := v) (f := f 2) (R := iprop(Done c 0 ∗ owns (c : Thread nD τ) (sM 0) fullShare (sv 0 c) ∗ has c cc0_scratch1 (recvX (sv 0) c) ∗ has c cc0_stg0_0 x ∗ atPos ER (barCell c) 1 ∅ 0 ∗ has c cc0_stg1_0 a ∗ Pos c 1 ∗ Idle c ∗ has c cc0_stg4_0 g)) hs1 fun r => ?_))
  · unfold Mid Pre19 Pool
    iintro ⟨A, ⟨S2, S3, HD, Hl, Hrl, Hs, Hd⟩, S0, Hb, Hg, S1, H4, ⟨P0, P1, P2, P3⟩, H6, H7, S4⟩
    isplitl [A]; · iexact A
    isplitl [S2]; · iexact S2
    isplitl [S3]; · iexact S3
    isplitl [H4]; · iexact H4
    isplitl [P0 P1 P2 P3 Hg Hl Hrl]
    · isplitl [P0]; · iexact P0
      isplitl [Hg]; · iexact Hg
      isplitl [P1]; · iexact P1
      isplitl [P2]; · iexact P2
      isplitl [P3]; · iexact P3
      isplitl [Hrl]; · iexact Hrl
      iexact Hl
    isplitl [HD]; · iexact HD
    isplitl [Hs]; · iexact Hs
    isplitl [Hd]; · iexact Hd
    isplitl [S0]; · iexact S0
    isplitl [Hb]; · iexact Hb
    isplitl [S1]; · iexact S1
    isplitl [H6]; · iexact H6
    isplitl [H7]; · iexact H7
    iexact S4
  obtain ⟨v543, w''⟩ := r
  refine bind_step (part20 fun r => ?_); obtain ⟨_, _, _⟩ := r
  refine bind_step (part21 fun r => ?_); obtain ⟨_, _, _⟩ := r
  refine bind_step (part22 fun r => ?_); obtain ⟨_, _⟩ := r
  refine bind_step (part23 fun r => ?_); obtain ⟨_, _, _⟩ := r
  refine bind_step (part24 fun r => ?_); obtain ⟨_, _, _⟩ := r
  refine BIBase.Entails.trans ?_ (bind_step (part25 (sv := sv) (K := K) (R := iprop(Done c 0 ∗ owns (c : Thread nD τ) (sM 0) fullShare (sv 0 c) ∗ has c cc0_scratch1 (recvX (sv 0) c) ∗ atPos ER (barCell c) 1 ∅ 0 ∗ Idle c ∗ has c cc0_stg0_0 x ∗ has c cc0_stg1_0 a ∗ has c cc0_stg2_0 u ∗ has c cc0_stg3_0 v ∗ has c cc0_stg4_0 g)) fun v711 => ?_))
  · iintro ⟨A, B, S2, S3, HD, Hs, Hd, S0, Hb, S1, H6, H7, S4⟩
    isplitl [A]; · iexact A
    isplitl [B]; · iexact B
    isplitl [H6]; · iexact H6
    isplitl [HD]; · iexact HD
    isplitl [Hs]; · iexact Hs
    isplitl [Hd]; · iexact Hd
    isplitl [Hb]; · iexact Hb
    isplitl [H7]; · iexact H7
    isplitl [S0]; · iexact S0
    isplitl [S1]; · iexact S1
    isplitl [S2]; · iexact S2
    isplitl [S3]; · iexact S3
    iexact S4
  refine bind_step (part26 fun _ => ?_)
  refine bind_step (part27 fun _ => ?_)
  refine bind_step (part28 fun _ => ?_)
  refine bind_step (part29 fun _ => ?_)
  refine bind_step (part30 fun _ => ?_)
  refine bind_step (part31 fun _ => ?_)
  refine bind_step (part32 fun _ => ?_)
  simp only [Prog.lift, Prog.bind_op, Prog.bind_ret, Prog.pure_eq_ret]
  refine step_waitR 1 15 rfl (by decide) (by rfl) (by rfl) ?_
  iintro ⟨A, B, HD, Hs, Hd, Hb, Hz, S0, S1, S2, S3, S4⟩
  ihave HE := (phase_end (sv := sv) (K := K) c 1) $$ [A B]
  · isplitl [A]; · iexact A
    iexact B
  icases HE with ⟨#Hr, HO, HD1, Hl, -, Hs1, Hd1⟩
  ihave Hd1 := (show (owns (c : Thread nD τ) (dM 1) fullShare (recvX (sv 1) c)) ⊢ has c cc0_scratch3 (recvX (sv 1) c) from
    Entails.of_eq (owns_whole (c : Thread nD τ) cc0_scratch3 fullShare (recvX (sv 1) c))) $$ Hd1
  ihave Hs1 := (show (owns (c : Thread nD τ) (sM 1) fullShare (sv 1 c)) ⊢ has c cc0_scratch2 (sv 1 c) from
    Entails.of_eq (owns_whole (c : Thread nD τ) cc0_scratch2 fullShare (sv 1 c))) $$ Hs1
  ihave Hs := (show (owns (c : Thread nD τ) (sM 0) fullShare (sv 0 c)) ⊢ has c cc0_scratch0 (sv 0 c) from
    Entails.of_eq (owns_whole (c : Thread nD τ) cc0_scratch0 fullShare (sv 0 c))) $$ Hs
  iapply (wp_load 𝒱₀ (c : Thread nD τ) none Set.univ (m := Memref.whole cc0_scratch3) (Finset.subset_univ _)) $$ Hd1; iintro Hd1
  rw [show (Memref.whole cc0_scratch3).view.readAt (Elt F) (Rect.unit (s := S16x64x512) ![0, 0, 0] S16x64x512.size
      inb_S16x64x512_S16x64x512_0_0_0).toLoadRect (recvX (sv 1) c) = recvX (sv 1) c from Memref.readAt_unit_zero (Elt F) cc0_scratch3 hz3 _ _]
  iapply (wp_load 𝒱₀ (c : Thread nD τ) none Set.univ (m := Memref.whole cc0_stg4_0) (Finset.subset_univ _)) $$ S4; iintro S4
  iapply (wp_store 𝒱₀ (c : Thread nD τ) none Set.univ (m := Memref.whole cc0_stg4_0)
    (r := Rect.unit (s := S512x512) ![0, 0] S512x512.size inb_S512x512_S512x512_0_0) (Mk := Finset.univ) (Finset.subset_univ _)) $$ S4; iintro S4
  rw [show ((Memref.whole cc0_stg4_0 : Memref sig .tc .vmem S512x512 .f32).access (Rect.unit (s := S512x512) ![0, 0] S512x512.size inb_S512x512_S512x512_0_0)
      : View sig .tc _ _ _).write (Elt F) g (k0_pay1 (k0_pay6 (k0_pay2 (F := F) a) (k0_pay3 a) k0_pay4 k0_pay5) (recvX (sv 1) c)) Finset.univ = outV a (recvX (sv 1) c) from
      Memref.write_access_unit_zero_univ (Elt F) cc0_stg4_0 hz2 _ g _, wp_ret]
  ihave Hk := (end_sort (c := c)) $$ [Hz Hb Hl HD HD1]
  · isplitl [Hz]; · iexact Hz
    isplitl [Hb]; · iexact Hb
    isplitl [Hl]; · iexact Hl
    isplitl [HD] <;> iassumption
  imod (close_all (sv := sv) (K := K) (c := c)) $$ [Hk] with Hk
  · isplitr; · iexact Hr
    iexact Hk
  imodintro
  isplitl [HO]; · iexact HO
  isplitl [Hk]; · iexact Hk
  isplitl [Hs Hd Hs1 Hd1]
  · iexists (![sv 0 c, recvX (sv 0) c, sv 1 c, recvX (sv 1) c] : Fin 4 → S16x64x512.Idx → Elt F .bf16)
    unfold Scr
    isplitl [Hs]; · iexact Hs
    isplitl [Hd]; · iexact Hd
    isplitl [Hs1]; · iexact Hs1
    iexact Hd1
  unfold Stg
  isplitl [S0]; · iexact S0
  isplitl [S1]; · iexact S1
  isplitl [S2]; · iexact S2
  isplitl [S3]; · iexact S3
  iexact S4

end Body

end Cert.KernelIdealProof

end
-- ==== Proof.KernelIdealLaunch.lean ====
/-
# 01_k — the launch and the run (KernelIdeal)

What the sixteen devices are dealt at launch, and the run of the whole program: from any memory with every counter at
zero it ends, each device's arrays at named contents and every counter at zero again. The contents are functions of
the memory at launch: `sent` is what each device puts into its send buffers in the two phases, `outAt` its result.
-/
module

public import proofs.«01_k».proof.Proof.KernelIdealBody
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The contents, as functions of the memory at launch -/

section Contents
variable (m : (ℓ : Loc nD τ sig) → Buf (Elt F) ℓ)

/-- Device `c`'s staged blocks: its tokens, their experts, and its two experts' weights. -/
def xIn (c : Dev nD) : S512x512.Idx → Elt F .bf16 := (win0_0.blk t0_0).view.read (Elt F) (m ((c : Thread nD τ).loc main_arg0))
def aIn (c : Dev nD) : S512x1.Idx → Elt F .i32 := (win0_1.blk t0_0).view.read (Elt F) (m ((c : Thread nD τ).loc main_arg1))
def uIn (c : Dev nD) : S2x512x1024.Idx → Elt F .bf16 := (win0_2.blk t0_0).view.read (Elt F) (m ((c : Thread nD τ).loc main_arg2))
def vIn (c : Dev nD) : S2x1024x512.Idx → Elt F .bf16 := (win0_3.blk t0_0).view.read (Elt F) (m ((c : Thread nD τ).loc main_arg3))

/-- What device `c` sends first: its tokens in the order of their slots; what it sends back: its experts' answers to
    what it received. -/
def sent0 (c : Dev nD) : S16x64x512.Idx → Elt F .bf16 := k0_pay7 (k0_pay2 (F := F) (aIn m c)) (k0_pay3 (aIn m c)) k0_pay4 k0_pay5 (xIn m c)
def sent1 (c : Dev nD) : S16x64x512.Idx → Elt F .bf16 :=
  k0_pay10 (k0_pay8 (recvX (sent0 m) c) (w1a (uIn m c)) (w2a (vIn m c))) (k0_pay9 (recvX (sent0 m) c)) (w1b (uIn m c)) (w2b (vIn m c))
def sent : Sent F := fun p c => if p = 0 then sent0 m c else sent1 m c

/-- Device `c`'s result. -/
def outAt (c : Dev nD) : S512x512.Idx → Elt F .f32 := outV (aIn m c) (recvX (sent1 m) c)

theorem sent_one (c : Dev nD) : recvX (sent m 1) c = recvX (sent1 m) c := rfl
end Contents

variable (m : (ℓ : Loc nD τ sig) → Buf (Elt F) ℓ) (ρ : Dev nD → PrngReg)

/-- The memory at launch. -/
def sL : MemSt nD τ sig (Elt F) := ⟨m, fun _ => 0, ρ⟩

/-- Before the body: the ghost state at some names, and the scratch buffers; after it: every cell closed. -/
def Φ₀ (c : Dev nD) : sProp 𝕄 := iprop((∃ K, Ghost (sent m) K c) ∗ ∃ f, Scr c f)
def Φ₁ (c : Dev nD) : sProp 𝕄 := iprop((bigSep Finset.univ fun k : CI => semVal (kcell (c, k)) 0) ∗ ∃ f, Scr c f)

def dats (_ : Fin 1) (c : Dev nD) : Dat τ (Elt F) Unit ℕ UU ℕ cfg0 c where
  A w := (sL m ρ).mem ((cfg0.win w).arr.view.loc (c : Thread nD τ))
  after w _ := match w with
    | ⟨0, _⟩ => xIn m c
    | ⟨1, _⟩ => aIn m c
    | ⟨2, _⟩ => uIn m c
    | ⟨3, _⟩ => vIn m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-! ## The body's obligation -/

section Obligation
variable (c : Dev nD)

def bodyPre : sProp 𝕄 :=
  iprop(Φ₀ m c ∗ (dats m ρ 0 c).owesAt () t0_0.castSucc
    ∗ (∃ d, has c cc0_stg0_0 ((dats m ρ 0 c).before (0 : Fin 5) t0_0 d)) ∗ (∃ d, has c cc0_stg1_0 ((dats m ρ 0 c).before (1 : Fin 5) t0_0 d))
    ∗ (∃ d, has c cc0_stg2_0 ((dats m ρ 0 c).before (2 : Fin 5) t0_0 d)) ∗ (∃ d, has c cc0_stg3_0 ((dats m ρ 0 c).before (3 : Fin 5) t0_0 d))
    ∗ (∃ d, has c cc0_stg4_0 ((dats m ρ 0 c).before (4 : Fin 5) t0_0 d)))
def bodyPost : sProp 𝕄 :=
  iprop(Φ₁ c ∗ (dats m ρ 0 c).owesAt () t0_0.succ ∗ Stg c (xIn m c) (aIn m c) (uIn m c) (vIn m c) (outAt m c))

theorem before_x (d) : (dats m ρ 0 c).before (0 : Fin 5) t0_0 d = xIn m c := by unfold Dat.before; rw [if_pos (fetch0_0 t0_0)]; rfl
theorem before_a (d) : (dats m ρ 0 c).before (1 : Fin 5) t0_0 d = aIn m c := by unfold Dat.before; rw [if_pos (fetch0_1 t0_0)]; rfl
theorem before_u (d) : (dats m ρ 0 c).before (2 : Fin 5) t0_0 d = uIn m c := by unfold Dat.before; rw [if_pos (fetch0_2 t0_0)]; rfl
theorem before_v (d) : (dats m ρ 0 c).before (3 : Fin 5) t0_0 d = vIn m c := by unfold Dat.before; rw [if_pos (fetch0_3 t0_0)]; rfl

variable [∀ e, Nonempty (Elt F e)]

theorem body_at (K : Dev nD × CI → ℕ) (f : Fin 4 → S16x64x512.Idx → Elt F .bf16) (g : S512x512.Idx → Elt F .f32) :
    iprop(Ghost (sent m) K c ∗ owing c (O₀ c) ∗ Scr c f ∗ Stg c (xIn m c) (aIn m c) (uIn m c) (vIn m c) g) ⊢ WP c bodyL fun _ => bodyPost m ρ c := by
  refine BIBase.Entails.trans (body_run (sv := sent m) (K := K) (c := c) rfl rfl) (Idealize.SL.Sem.wp_mono _ _ _ fun _ => ?_)
  unfold bodyPost Φ₁ Dat.owesAt Pipeline.owesWithin owing
  iintro ⟨⟨%W, HO⟩, Hz, Hf, HS⟩
  isplitl [Hz Hf]
  · isplitl [Hz] <;> iassumption
  isplitl [HO]
  · iexists W
    isplitr; · ipureintro; exact fun _ _ => Or.inl trivial
    iexact HO
  iexact HS

theorem body_pre : bodyPre m ρ c ⊢ WP c bodyL fun _ => bodyPost m ρ c := by
  unfold bodyPre Φ₀
  iintro ⟨⟨⟨%K, HG⟩, ⟨%f, Hf⟩⟩, Ho, ⟨%d0, H0⟩, ⟨%d1, H1⟩, ⟨%d2, H2⟩, ⟨%d3, H3⟩, ⟨%d4, H4⟩⟩
  rw [before_x, before_a, before_u, before_v]
  unfold Dat.owesAt Pipeline.owesWithin
  icases Ho with ⟨%W, %hW, HO⟩
  rw [show (dats m ρ 0 c).owed t0_0.castSucc = O₀ c from rfl]
  iapply (body_at m ρ c K f ((dats m ρ 0 c).before (4 : Fin 5) t0_0 d4))
  unfold owing Stg
  isplitl [HG]; · iexact HG
  isplitl [HO]; · iexists W; iexact HO
  isplitl [Hf]; · iexact Hf
  isplitl [H0]; · iexact H0
  isplitl [H1]; · iexact H1
  isplitl [H2]; · iexact H2
  isplitl [H3]; · iexact H3
  iexact H4

set_option maxRecDepth 8000 in
theorem body_obligation : BodyObligation (dats (F := F) m ρ 0 c) (defs₀ (F := F)) 𝒱₀ () Set.univ := fun t => by
  rw [fin_N0 t]
  rw [bigSep_W, bigSep_W]
  simp only [owns_whole]
  show bodyPre m ρ c ⊢ WP c bodyL fun _ => bodyPost m ρ c
  exact body_pre m ρ c

end Obligation

/-! ## What the launch mints, and how it is dealt -/

theorem ownSemFacts : Pipeline.OwnSemFacts cfg0.spec osem := by decide +kernel

theorem share_eq (c : Dev nD) (w : Fin cfg0.W) : (dats m ρ 0 c).share w = fullShare := by unfold Dat.share; split <;> rfl

theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]
def cells : Finset (GSem nD τ sig) := Finset.univ.map ⟨kcell, kcell_inj⟩

/-- Sixteen tokens of each cell: of the barrier the sixteen duties of round 0, of any other its duty 0 of rounds 0 to 15. -/
def tokOf (x : Dev nD × CI × Fin 16) : GSem nD τ sig × ℕ × Fin 16 :=
  (kcell (x.1, x.2.1), if x.2.1 = barI then (0, x.2.2) else (x.2.2.val, 0))
theorem tokOf_inj : Function.Injective tokOf := by
  rintro ⟨c, k, j⟩ ⟨c', k', j'⟩ h
  have h1 := kcell_inj (congrArg Prod.fst h)
  obtain ⟨rfl, rfl⟩ := Prod.mk.inj h1
  have h2 : (if k = barI then ((0 : ℕ), j) else (j.val, 0)) = if k = barI then (0, j') else (j'.val, 0) := congrArg Prod.snd h
  have h3 : j = j' := by
    split at h2
    · exact congrArg Prod.snd h2
    · exact Fin.ext (congrArg Prod.fst h2)
  rw [h3]
def tokens : Finset (GSem nD τ sig × ℕ × Fin 16) := Finset.univ.map ⟨tokOf, tokOf_inj⟩

def u₀ : UU := (initOf (Pipeline.cells cfgs cellOf_inj) (Pipeline.launchToks cfgs cellOf_inj), initOf cells tokens)

/-- The tokens of device `c`'s own cells. -/
def tokAll (c : Dev nD) : sProp 𝕄 :=
  bigSep Finset.univ fun k : CI => bigSep Finset.univ fun j : Fin 16 => dutyTok ER (tokOf (c, k, j)).1 (tokOf (c, k, j)).2.1 (tokOf (c, k, j)).2.2
/-- Those of them that are duties. -/
def tokOwn (c : Dev nD) : sProp 𝕄 :=
  iprop((bigSep (ge 1) fun o => dutyTok ER (barCell c) 0 o)
    ∗ (bigSep (ge 1) fun o => dutyTok ER (xcell 0 o c) 0 0) ∗ (bigSep (ge 1) fun o => dutyTok ER (xcell 1 o c) 0 0)
    ∗ (bigSep (ge 1) fun o => dutyTok ER (xcell 2 o c) 0 0) ∗ (bigSep (ge 1) fun o => dutyTok ER (xcell 3 o c) 0 0)
    ∗ dutyTok ER (locCell c) 0 0 ∗ dutyTok ER (locCell c) 1 0)

theorem tok_x (c : Dev nD) (a : Fin 4) :
    (bigSep (ge 1) fun o => bigSep Finset.univ fun j : Fin 16 => (dutyTok ER (tokOf (c, xI a o, j)).1 (tokOf (c, xI a o, j)).2.1 (tokOf (c, xI a o, j)).2.2 : sProp 𝕄))
      ⊢ bigSep (ge 1) fun o => dutyTok ER (xcell a o c) 0 0 :=
  bigSep_mono fun o _ => show (bigSep Finset.univ fun j : Fin 16 => (dutyTok ER (tokOf (c, xI a o, j)).1 (tokOf (c, xI a o, j)).2.1 (tokOf (c, xI a o, j)).2.2 : sProp 𝕄)) ⊢ _ from
    bigSep_elim (Finset.mem_univ (0 : Fin 16))

theorem tokAll_own (c : Dev nD) : (tokAll c : sProp 𝕄) ⊢ tokOwn c := by
  unfold tokAll tokOwn
  rw [big_CI]
  iintro ⟨⟨⟨-, H0, H1, H2, H3⟩, Hl⟩, Hb⟩
  isplitl [Hb]
  · iapply (show (bigSep Finset.univ fun j : Fin 16 => (dutyTok ER (tokOf (c, barI, j)).1 (tokOf (c, barI, j)).2.1 (tokOf (c, barI, j)).2.2 : sProp 𝕄))
      ⊢ bigSep (ge 1) fun o => dutyTok ER (barCell c) 0 o from bigSep_subset (Finset.subset_univ _))
    iexact Hb
  isplitl [H0]; · iapply (tok_x c 0); iexact H0
  isplitl [H1]; · iapply (tok_x c 1); iexact H1
  isplitl [H2]; · iapply (tok_x c 2); iexact H2
  isplitl [H3]; · iapply (tok_x c 3); iexact H3
  ihave Hl := (show (bigSep Finset.univ fun j : Fin 16 => (dutyTok ER (tokOf (c, locI, j)).1 (tokOf (c, locI, j)).2.1 (tokOf (c, locI, j)).2.2 : sProp 𝕄))
      ⊢ iprop(dutyTok ER (locCell c) 0 0 ∗ dutyTok ER (locCell c) 1 0) from by
    rw [bigSep_univ_at _ (0 : Fin 16)]
    refine sep_mono_right ?_
    exact bigSep_elim (Finset.mem_erase.mpr ⟨(by decide : (1 : Fin 16) ≠ 0), Finset.mem_univ _⟩)) $$ Hl
  iexact Hl

/-- What the launch element deals device `c`. -/
def G (c : Dev nD) : sProp 𝕄 :=
  iprop((bigSep Finset.univ fun k : CI => roundState ER (rd (sent m)) (kcell (c, k)) 0)
    ∗ (bigSep Finset.univ fun k : CI => iprop(atPos ER (kcell (c, k)) 0 ∅ 0 ∗ reached ER (kcell (c, k)) 0)) ∗ tokOwn c)

/-- The cells' records at the names `K`, without the levels. -/
def records (K : Dev nD × CI → ℕ) : sProp 𝕄 :=
  iprop((bigSep Finset.univ fun ck => cellInv ER (rd (sent m)) (K ck) (kcell ck)) ∗ bigSep Finset.univ fun ck => reached ER (kcell ck) 0)

instance records_persistent (K : Dev nD × CI → ℕ) : BI.Persistent (records m K) := by
  unfold records
  have : BI.Persistent (bigSep Finset.univ fun ck => cellInv ER (rd (sent m)) (K ck) (kcell ck) : sProp 𝕄) := by infer_instance
  have : BI.Persistent (bigSep Finset.univ fun ck => reached ER (kcell ck) 0 : sProp 𝕄) := by infer_instance
  infer_instance

/-- What the global step makes of it. -/
def G' (c : Dev nD) : sProp 𝕄 :=
  iprop(∃ K, records m K ∗ (bigSep Finset.univ fun k : CI => atPos ER (kcell (c, k)) 0 ∅ 0) ∗ Toks c)

theorem fund_cells : BI.own (ER (initOf cells tokens)) ⊢ (|==> bigSep Finset.univ (G m) : sProp 𝕄) := by
  have hX (Φ : GSem nD τ sig → sProp 𝕄) : bigSep cells Φ = bigSep Finset.univ fun c : Dev nD => bigSep Finset.univ fun k : CI => Φ (kcell (c, k)) := by
    unfold cells; rw [bigSep_map, bigSep_univ_prod]; rfl
  have hT : bigSep tokens (fun x => (dutyTok ER x.1 x.2.1 x.2.2 : sProp 𝕄)) = bigSep Finset.univ fun c : Dev nD => tokAll c := by
    unfold tokens; rw [bigSep_map, bigSep_univ_prod]
    exact bigSep_congr fun c _ => by unfold tokAll; rw [bigSep_univ_prod]; rfl
  iintro HX
  imod (Rounds.fund ER (rd (sent m)) cells tokens) $$ HX with ⟨Hst, Hr, Hat, Htok⟩
  imodintro
  ihave Hst' := (Entails.of_eq (hX fun g => roundState ER (rd (sent m)) g 0)) $$ Hst
  ihave Hat' := (Entails.of_eq (hX fun g => atPos ER g 0 ∅ 0)) $$ Hat
  ihave Hr' := (Entails.of_eq (hX fun g => reached ER g 0)) $$ Hr
  ihave Htok' := ((Entails.of_eq hT).trans (bigSep_mono fun c _ => tokAll_own c)) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      = (bigSep Finset.univ fun k : CI => semVal (kcell (c, k)) 0 : sProp 𝕄) := by
  rw [unscopedSems0_eq, bigSep_univ_sum, bigSep_univ_of_subsingleton ()]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd (sent m)) κ (kcell (c, k))))
          ∗ (bigSep Finset.univ fun k : CI => iprop(atPos ER (kcell (c, k)) 0 ∅ 0 ∗ reached ER (kcell (c, k)) 0)) ∗ tokOwn c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : CI => semVal (kcell (c, k)) 0) ∗ bigSep Finset.univ fun k : CI => roundState ER (rd (sent m)) (kcell (c, k)) 0)
      ⊢ (|={Set.univ}=> bigSep Finset.univ fun k : CI => iprop(∃ κ : ℕ, cellInv ER (rd (sent m)) κ (kcell (c, k))) : sProp 𝕄) from by
        rw [← bigSep_sep']
        exact (bigSep_mono fun k _ => (Rounds.body_intro ER (rd (sent m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A sum over the devices of a sum over offsets, the offsets first. -/
theorem big_swap (S : Finset (Fin 16)) (Φ : Fin 16 → Dev nD → sProp 𝕄) :
    (bigSep Finset.univ fun c : Dev nD => bigSep S fun o => Φ o c) = bigSep S fun o => bigSep Finset.univ fun c : Dev nD => Φ o c := by
  induction S using Finset.induction_on with
  | empty =>
    rw [bigSep_empty, ← bigSep_emp_const (Finset.univ : Finset (Dev nD))]
    exact bigSep_congr fun c _ => bigSep_empty
  | insert o S ho ih =>
    rw [bigSep_insert ho, ← ih]
    exact (bigSep_congr fun c _ => bigSep_insert ho).trans (bigSep_sep' Finset.univ _ _)

/-- Tokens of the cells `nx c o`, summed over the devices, are those of the devices themselves. -/
theorem toks_nx (Φ : Fin 16 → Dev nD → sProp 𝕄) :
    (bigSep Finset.univ fun c : Dev nD => bigSep (ge 1) fun o => Φ o (nx c o)) = bigSep Finset.univ fun c : Dev nD => bigSep (ge 1) fun o => Φ o c := by
  rw [big_swap (ge 1) fun o c => Φ o (nx c o), big_swap (ge 1) Φ]
  exact bigSep_congr fun o _ => (bigSep_univ_equiv (shE o) (Φ o)).symm

/-- The tokens dealt around: each device gets those it pays with. -/
theorem toks_around : (bigSep Finset.univ fun c : Dev nD => (tokOwn c : sProp 𝕄)) = bigSep Finset.univ fun c : Dev nD => Toks c := by
  have hb : (bigSep Finset.univ fun c : Dev nD => bigSep (ge 1) fun o => (dutyTok ER (barCell c) 0 o : sProp 𝕄))
      = bigSep Finset.univ fun c : Dev nD => bigSep (ge 1) fun o => dutyTok ER (barCell (nx c o)) 0 (ng o) := by
    rw [toks_nx fun o c => (dutyTok ER (barCell c) 0 (ng o) : sProp 𝕄)]
    exact bigSep_congr fun c _ => (big_ng fun o => (dutyTok ER (barCell c) 0 o : sProp 𝕄)).symm
  unfold tokOwn Toks
  simp only [bigSep_sep']
  rw [hb, toks_nx fun o c => (dutyTok ER (xcell 1 o c) 0 0 : sProp 𝕄), toks_nx fun o c => (dutyTok ER (xcell 3 o c) 0 0 : sProp 𝕄)]

theorem big_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × CI → ℕ) (c : Dev nD) :
    iprop(records m K ∗ (bigSep Finset.univ fun k : CI => atPos ER (kcell (c, k)) 0 ∅ 0) ∗ Toks c) ⊢ G' m c := by
  unfold G'; iintro H; iexists K; iexact H

theorem regroup :
    (bigSep Finset.univ fun c : Dev nD => iprop((bigSep Finset.univ fun k : CI => iprop(∃ κ : ℕ, cellInv ER (rd (sent m)) κ (kcell (c, k))))
          ∗ (bigSep Finset.univ fun k : CI => iprop(atPos ER (kcell (c, k)) 0 ∅ 0 ∗ reached ER (kcell (c, k)) 0)) ∗ tokOwn c) : sProp 𝕄)
      ⊢ bigSep Finset.univ (G' m) := by
  rw [bigSep_sep', bigSep_sep', ← bigSep_univ_prod (fun ck : Dev nD × CI => iprop(∃ κ : ℕ, cellInv ER (rd (sent m)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_around]
  iintro ⟨HI, ⟨Hat, #HR⟩, Htok⟩
  ihave HK := (BI.bigSep_exists_pi Finset.univ (fun (ck : Dev nD × CI) (κ : ℕ) => (cellInv ER (rd (sent m)) κ (kcell ck) : sProp 𝕄))) $$ HI
  icases HK with ⟨%K, #HI⟩
  iapply (big_with (R := records m K) fun c _ => G'_intro m K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) Toks).symm)
    isplitl [Hat]; · iexact Hat
    iexact Htok

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- What all devices together owe a cell, where each owes `v` to one cell at each offset. -/
theorem owed_nx (κ : Fin 16 → CI) (v : ℕ) (c : Dev nD) (k : CI) :
    (∑ d : Dev nD, (∑ o ∈ ge 1, (tallyAt (kcell (nx d o, κ o)) () v : CellTallies nD τ sig Unit)) (kcell (c, k)) ()) = ∑ o ∈ ge 1, if κ o = k then v else 0 := by
  simp only [Finset.sum_apply, Finsupp.finset_sum_apply]
  rw [Finset.sum_comm]
  refine Finset.sum_congr rfl fun o _ => ?_
  refine (Equiv.sum_comp (shE o) fun d => (tallyAt (kcell (d, κ o)) () v : CellTallies nD τ sig Unit) (kcell (c, k)) ()).trans ?_
  rw [Fintype.sum_eq_single c]
  · rw [tallyAt_apply]
    by_cases h : κ o = k
    · rw [if_pos h, if_pos ⟨by rw [h], rfl⟩]
    · rw [if_neg h, if_neg fun hh => h (Prod.mk.inj (kcell_inj hh.1)).2.symm]
  · intro d hd
    rw [tallyAt_apply, if_neg fun hh => hd (Prod.mk.inj (kcell_inj hh.1)).1.symm]

/-- What all devices together owe a cell. -/
def total (k : CI) : ℕ := (∑ o ∈ ge 1, if barI = k then 1 else 0) + ((∑ o ∈ ge 1, if xI 3 o = k then N else 0) + ∑ o ∈ ge 1, if xI 1 o = k then N else 0)

theorem total_eq (c : Dev nD) (k : CI) : (∑ d : Dev nD, O₀ d (kcell (c, k)) ()) = total k := by
  unfold total
  rw [← owed_nx (fun _ => barI) 1 c k, ← owed_nx (fun o => xI 3 o) N c k, ← owed_nx (fun o => xI 1 o) N c k, ← Finset.sum_add_distrib, ← Finset.sum_add_distrib]
  refine Finset.sum_congr rfl fun d _ => ?_
  rfl

theorem total_bar : total barI = 15 := by
  unfold total
  rw [Finset.sum_congr rfl fun o _ => if_pos rfl, Finset.sum_congr rfl fun o _ => if_neg (by intro h; cases h),
    Finset.sum_congr rfl fun o _ => if_neg (by intro h; cases h), Finset.sum_const_zero, Finset.sum_const, smul_eq_mul]
  decide
theorem xI_iff {a a' : Fin 4} {o o' : Fin 16} : xI a o = xI a' o' ↔ a = a' ∧ o = o' :=
  ⟨fun h => by cases h; exact ⟨rfl, rfl⟩, fun h => by rw [h.1, h.2]⟩
theorem total_x (a : Fin 4) (ha : a = 1 ∨ a = 3) (o : Fin 16) (ho : o ∈ ge 1) : total (xI a o) = N := by
  unfold total
  rw [Finset.sum_congr rfl fun o _ => if_neg (by intro h; cases h), Finset.sum_const_zero]
  simp only [xI_iff]
  rcases ha with rfl | rfl
  · rw [Finset.sum_congr rfl fun o' _ => if_neg (fun h => absurd h.1 (by decide)), Finset.sum_const_zero]
    simp only [true_and]
    rw [Finset.sum_ite_eq' (ge 1) o fun _ => N, if_pos ho, Nat.zero_add, Nat.zero_add]
  · rw [Finset.sum_congr (s₁ := ge 1) (f := fun o' => if (1 : Fin 4) = 3 ∧ o' = o then N else 0) rfl fun o' _ => if_neg (fun h => absurd h.1 (by decide)), Finset.sum_const_zero]
    simp only [true_and]
    rw [Finset.sum_ite_eq' (ge 1) o fun _ => N, if_pos ho, Nat.zero_add, Nat.add_zero]

theorem launch_cell (c : Dev nD) (k : CI) :
    tallyOn (kcell (c, k)) (launchCredit (Pipeline.owing O₀) 0 (kcell (c, k))) = (tallyAt (kcell (c, k)) () (total k) : CellTallies nD τ sig Unit) := by
  unfold tallyAt; refine congrArg _ (Finsupp.ext fun u => ?_); cases u
  rw [Pipeline.launchCredit_owing, Finsupp.single_eq_same, total_eq]

theorem creds (c : Dev nD) : (Pipeline.launchCred O₀ c : sProp 𝕄) ⊢ Creds c := by
  have h : (Pipeline.launchCred O₀ c : sProp 𝕄) ⊢ bigSep Finset.univ fun k : CI => cred (tallyAt (kcell (c, k)) () (total k)) := by
    unfold Pipeline.launchCred
    refine (show _ ⊢ _ from bigSep_subset (Finset.subset_univ (Finset.univ.image csem))).trans (Entails.of_eq ?_)
    rw [bigSep_image_of_injOn csem_inj.injOn]
    exact bigSep_congr fun k _ => congrArg cred (launch_cell c k)
  refine BIBase.Entails.trans h ?_
  rw [big_CI]
  unfold Creds
  iintro ⟨⟨⟨-, -, H1, -, H3⟩, -⟩, Hb⟩
  isplitl [Hb]; · rw [← total_bar]; iexact Hb
  isplitl [H1]
  · iapply (Entails.of_eq (bigSep_congr fun o ho => show cred (tallyAt (xcell 1 o c) () (total (xI 1 o))) = (cred (tallyAt (xcell 1 o c) () N) : sProp 𝕄) from by rw [total_x 1 (.inl rfl) o ho]))
    iexact H1
  · iapply (Entails.of_eq (bigSep_congr fun o ho => show cred (tallyAt (xcell 3 o c) () (total (xI 3 o))) = (cred (tallyAt (xcell 3 o c) () N) : sProp 𝕄) from by rw [total_x 3 (.inr rfl) o ho]))
    iexact H3

/-! ## The launch theorem's side conditions -/

def start (c : Dev nD) : sProp 𝕄 := iprop(∃ K, Ghost (sent m) K c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G' Ghost records recs
  icases HG with ⟨%K, ⟨HI, HR⟩, Hat, Htok⟩
  isplitl
  · iexists K
    isplitl [HI HR Hlev]
    · isplitl [HI]; · iexact HI
      isplitl [HR]; · iexact HR
      iexact Hlev
    isplitl [Hat]; · iexact Hat
    isplitl [Htok]; · iexact Htok
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start Scr has
  iintro ⟨Hs, -, ⟨%f0, H0⟩, ⟨%f1, H1⟩, ⟨%f2, H2⟩, ⟨%f3, H3⟩⟩
  isplitl [Hs]; · iexact Hs
  iexists ![f0, f1, f2, f3]
  isplitl [H0]; · iexact H0
  isplitl [H1]; · iexact H1
  isplitl [H2]; · iexact H2
  iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ Scr has
  rw [← sems0_eq]
  iintro ⟨⟨Hos, Hus⟩, ⟨%f, H0, H1, H2, H3⟩⟩
  isplitl [Hus]; · iexact Hus
  isplitl [Hos]; · iexact Hos
  isplitl [H0]; · iexists (f 0); iexact H0
  isplitl [H1]; · iexists (f 1); iexact H1
  isplitl [H2]; · iexists (f 2); iexact H2
  iexists (f 3); iexact H3

/-- Everything owed at launch is owed above the staging cells. -/
theorem above_O₀ (c : Dev nD) : Above 0 (O₀ c) := by
  have hr : ∀ p : Fin 2, Above 0 (debR p 1 c) := fun p => by
    unfold debR
    refine above_sum _ _ fun o => above_tally (nx c o) (xI (rA p) o) N ?_
    revert o; fin_cases p <;> decide
  have he : ext 0 c = debR 1 1 c := if_pos rfl
  unfold O₀ debB
  rw [he]
  exact above_add (above_sum _ _ fun o => above_tally (nx c o) barI 1 (by decide)) (above_add (hr 1) (hr 0))

theorem mayWait_stage (c : Dev nD) (q : DmaSem sig) (hq : q.val < 5) {O : CellTallies nD τ sig Unit} (hO : Above 0 O) :
    (levAts L lv : sProp 𝕄) ⊢ MayWait (c : Thread nD τ) (.dma q) () O :=
  mayWait_above c _ 0 (by rw [dec_stage q hq]; exact le_rfl) hO

theorem stage_small (w : Fin cfg0.W) (s : Fin (cfg0.win w).nbuf) : ((cfg0.win w).sem s).val < 5 := by
  fin_cases w <;> fin_cases s <;> decide
theorem owed_above (c : Dev nD) (t : Fin (cfg0.N + 1)) : Above 0 ((dats m ρ 0 c).owed t) := by
  rcases t with ⟨_ | _, ht⟩
  · exact above_O₀ c
  · exact above_zero 0

theorem waits (c : Dev nD) : (levAts L lv : sProp 𝕄) ⊢ Pipeline.cellsWaits cfgs (dats m ρ) () 0 c :=
  Pipeline.cellsWaits_intro cfgs (dats m ρ) () 0 c fun w s t =>
    mayWait_stage c _ (by exact stage_small w s) (by exact owed_above m ρ c t)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution of the program on the sixteen devices ends, every
    window's array at the contents computed and every counter at zero. -/
theorem run_main [∀ e, Nonempty (Elt F e)] : θ_run defs (onTc (τ := τ) (main (F := F))) (sL m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin cfg0.W) (h : (cfg0.win w).isOut = false) : finalA m ρ c w = (sL m ρ).mem ((cfg0.win w).arr.view.loc (c : Thread nD τ)) :=
  (dats (F := F) m ρ 0 c).arrAt_in w h _

/-- The run, at the arguments: each device's arguments as they were, its result at `outAt`'s contents written back. -/
theorem run_args [∀ e, Nonempty (Elt F e)] : θ_run defs (onTc (τ := τ) (main (F := F))) ⟨m, fun _ => 0, ρ⟩ (fun r => (∀ c : Dev nD,
    r.2.mem ((c.tc : Thread nD τ).loc main_v1) = finalA m ρ c (4 : Fin 5)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun r h => ⟨fun c => ⟨h.1 c (4 : Fin 5), (h.1 c (0 : Fin 5)).trans (finalA_in m ρ c (0 : Fin 5) rfl),
    (h.1 c (1 : Fin 5)).trans (finalA_in m ρ c (1 : Fin 5) rfl), (h.1 c (2 : Fin 5)).trans (finalA_in m ρ c (2 : Fin 5) rfl),
    (h.1 c (3 : Fin 5)).trans (finalA_in m ρ c (3 : Fin 5) rfl)⟩, h.2⟩) (run_main m ρ)

/-- Only the arguments. -/
theorem run_frame [∀ e, Nonempty (Elt F e)] : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run_args m ρ)

end Cert.KernelIdealProof

end
-- ==== Proof.Rank.lean ====
/-
# 01_k — ranks and slots of tokens

Pure facts about one device's 512 tokens, `e i` the expert of token `i`: the one-hot words that the kernel makes from
integer differences, the rank of a token among the earlier tokens of its expert, and its slot, 32 for each expert.
-/
module

public import Idealize.ShloMosaic.Lib.Pointwise
public import Idealize.ShloMosaic.Lib.WordArith
public import Idealize.ShloMosaic.Lib.IndicatorCount

@[expose] public section

noncomputable section

namespace Cert.Rank

open Idealize.ShloMosaic Idealize.ShloMosaic.WordArith

/-! ## Words -/

/-- The word `max(1 - (u - v)², 0)` is one where `u = v` and zero elsewhere, for numbers below `2 ^ 15`. -/
theorem hot_toInt (u v : ℕ) (hu : u < 2 ^ 15) (hv : v < 2 ^ 15) :
    (IntOp.maxsi (IntOp.subi 1#32 (IntOp.muli (IntOp.subi (BitVec.ofNat 32 u) (BitVec.ofNat 32 v))
      (IntOp.subi (BitVec.ofNat 32 u) (BitVec.ofNat 32 v)))) 0#32).toInt = if u = v then 1 else 0 := by
  have h1 : (BitVec.ofNat 32 u).toInt = u := toInt_ofNat_small u (by omega)
  have h2 : (BitVec.ofNat 32 v).toInt = v := toInt_ofNat_small v (by omega)
  have h3 : (IntOp.subi (BitVec.ofNat 32 u) (BitVec.ofNat 32 v)).toInt = (u : ℤ) - v := by
    have := toInt_sub_of_bounds (BitVec.ofNat 32 u) (BitVec.ofNat 32 v) (by rw [h1, h2]; omega) (by rw [h1, h2]; omega)
    rw [h1, h2] at this; exact this
  generalize IntOp.subi (BitVec.ofNat 32 u) (BitVec.ofNat 32 v) = d at h3 ⊢
  have hb1 : 0 ≤ ((u : ℤ) - v) * (u - v) := mul_self_nonneg _
  have hb2 : ((u : ℤ) - v) * (u - v) ≤ 2 ^ 15 * 2 ^ 15 := by
    have h6 : -(2 ^ 15 : ℤ) ≤ (u : ℤ) - v := by omega
    have h7 : (u : ℤ) - v ≤ 2 ^ 15 := by omega
    nlinarith
  have h4 : (IntOp.muli d d).toInt = ((u : ℤ) - v) * (u - v) := by
    have := toInt_mul_of_bounds d d (by rw [h3]; omega) (by rw [h3]; omega)
    rw [h3] at this; exact this
  generalize IntOp.muli d d = q at h4 ⊢
  have h5 : (IntOp.subi 1#32 q).toInt = 1 - ((u : ℤ) - v) * (u - v) := by
    have h0 : (1#32).toInt = 1 := by decide
    have := toInt_sub_of_bounds 1#32 q (by rw [h4, h0]; omega) (by rw [h4, h0]; omega)
    rw [h4, h0] at this; exact this
  generalize IntOp.subi 1#32 q = w at h5 ⊢
  unfold IntOp.maxsi
  have h0 : (0#32).toInt = 0 := by decide
  rw [apply_ite BitVec.toInt, h5, h0]
  simp only [BitVec.slt, h5, h0, decide_eq_true_eq]
  by_cases h : u = v
  · subst h; simp
  · have h6 : (u : ℤ) - v ≠ 0 := by omega
    have h7 : 1 ≤ ((u : ℤ) - v) * (u - v) := by
      have := mul_self_pos.mpr h6
      omega
    rw [if_neg (by omega), if_neg h]

/-- The word `min(1, max(0, i - j))` is one where `j < i` and zero elsewhere. -/
theorem below_toInt (i j : ℕ) (hi : i < 2 ^ 15) (hj : j < 2 ^ 15) :
    (IntOp.minsi 1#32 (IntOp.maxsi 0#32 (IntOp.subi (BitVec.ofNat 32 i) (BitVec.ofNat 32 j)))).toInt = if j < i then 1 else 0 := by
  have h1 : (BitVec.ofNat 32 i).toInt = i := toInt_ofNat_small i (by omega)
  have h2 : (BitVec.ofNat 32 j).toInt = j := toInt_ofNat_small j (by omega)
  have h3 : (IntOp.subi (BitVec.ofNat 32 i) (BitVec.ofNat 32 j)).toInt = (i : ℤ) - j := by
    have := toInt_sub_of_bounds (BitVec.ofNat 32 i) (BitVec.ofNat 32 j) (by rw [h1, h2]; omega) (by rw [h1, h2]; omega)
    rw [h1, h2] at this; exact this
  have h4 := toInt_maxsi_zero (IntOp.subi (BitVec.ofNat 32 i) (BitVec.ofNat 32 j))
  rw [h3] at h4
  generalize IntOp.maxsi 0#32 (IntOp.subi (BitVec.ofNat 32 i) (BitVec.ofNat 32 j)) = w at h4 ⊢
  unfold IntOp.minsi
  have h0 : (1#32).toInt = 1 := by decide
  rw [apply_ite BitVec.toInt, h4, h0]
  simp only [BitVec.slt, h4, h0, decide_eq_true_eq]
  split_ifs <;> omega

/-- A natural number below `2 ^ 31`, as an extended real, becomes its word. -/
theorem fptosi_nat (n : ℕ) (h : n < 2 ^ 31) : Ideal.fptosi 32 ((n : ℝ) : EReal) = BitVec.ofNat 32 n := by
  have h1 : Ideal.toIntClamped (-(2 ^ (32 - 1) : ℕ)) ((2 ^ (32 - 1) : ℕ) - 1) ((n : ℝ) : EReal) = (n : ℤ) := by
    rw [Ideal.toIntClamped_coe, if_pos (Nat.cast_nonneg n), Int.floor_natCast]
    have : ((2 ^ (32 - 1) : ℕ) : ℤ) = 2147483648 := by norm_num
    omega
  unfold Ideal.fptosi
  rw [h1]; rfl

/-- Products with a one-hot factor sum to the term at the one. -/
theorem sum_hot {ι : Type} [Fintype ι] [DecidableEq ι] (x : ι) (f : ι → EReal) (p : ι → Prop) [DecidablePred p]
    (h : ∀ y, p y ↔ y = x) : ∑ y, (if p y then (1 : EReal) else 0) * f y = f x := by
  rw [Finset.sum_eq_single x]
  · rw [if_pos ((h x).2 rfl), one_mul]
  · intro y _ hy; rw [if_neg (fun hp => hy ((h y).1 hp)), zero_mul]
  · intro hx; exact absurd (Finset.mem_univ x) hx

/-! ## Ranks and slots -/

section
variable (e : Fin 512 → ℕ)

/-- How many earlier tokens name the same expert. -/
def rank (i : Fin 512) : ℕ := (Finset.univ.filter fun j => j < i ∧ e j = e i).card

/-- The slot of token `i`. -/
def slot (i : Fin 512) : ℕ := e i * 32 + rank e i

/-- Every token names one of 32 experts, and no expert is named more than 32 times. -/
def Fits : Prop := (∀ i, e i < 32) ∧ ∀ l, (Finset.univ.filter fun j => e j = l).card ≤ 32

variable {e}

theorem rank_lt (h : Fits e) (i : Fin 512) : rank e i < 32 := by
  refine lt_of_lt_of_le (Finset.card_lt_card ?_) (h.2 (e i))
  refine Finset.ssubset_iff_of_subset (fun j hj => ?_) |>.2 ⟨i, ?_, ?_⟩
  · simp only [Finset.mem_filter, Finset.mem_univ, true_and] at hj ⊢; exact hj.2
  · simp
  · simp

theorem rank_le (i : Fin 512) : rank e i ≤ 512 := by
  refine (Finset.card_le_univ _).trans ?_
  simp

/-- Among the tokens of one expert, a later token has a higher rank. -/
theorem rank_mono {i j : Fin 512} (hij : i < j) (he : e i = e j) : rank e i < rank e j := by
  refine Finset.card_lt_card (Finset.ssubset_iff_of_subset (fun k hk => ?_) |>.2 ⟨i, ?_, ?_⟩)
  · simp only [Finset.mem_filter, Finset.mem_univ, true_and] at hk ⊢; exact ⟨hk.1.trans hij, hk.2.trans he⟩
  · simp only [Finset.mem_filter, Finset.mem_univ, true_and]; exact ⟨hij, he⟩
  · simp

/-- No two tokens share a slot. -/
theorem slot_inj (h : Fits e) {i j : Fin 512} (hs : slot e i = slot e j) : i = j := by
  have hi := rank_lt h i; have hj := rank_lt h j
  unfold slot at hs
  have he : e i = e j := by omega
  rcases lt_trichotomy i j with hl | hl | hl
  · have := rank_mono hl he; omega
  · exact hl
  · have := rank_mono hl he.symm; omega

theorem slot_lt (h : Fits e) (i : Fin 512) : slot e i < 1024 := by
  have := h.1 i; have := rank_lt h i; unfold slot; omega

/-- The number of the expert is the slot's block of 32. -/
theorem slot_div (h : Fits e) (i : Fin 512) : slot e i / 32 = e i := by
  have := rank_lt h i; unfold slot; omega

/-- The kernel's sum of products of one-hot rows and the strict lower triangle is the rank. -/
theorem rank_sum (h : Fits e) (i : Fin 512) :
    (∑ l : Fin 128, (if e i = l.val then (1 : EReal) else 0) * ∑ j : Fin 512, (if j.val < i.val then (1 : EReal) else 0) * (if e j = l.val then 1 else 0))
      = ((rank e i : ℝ) : EReal) := by
  have hlt := h.1 i
  rw [sum_hot (⟨e i, by omega⟩ : Fin 128) _ (fun l : Fin 128 => e i = l.val) (fun y => ⟨fun hy => Fin.ext hy.symm, fun hy => by rw [hy]⟩)]
  rw [show (∑ j : Fin 512, (if j.val < i.val then (1 : EReal) else 0) * (if e j = e i then 1 else 0))
      = ∑ j : Fin 512, if j < i ∧ e j = e i then (1 : EReal) else 0 from Finset.sum_congr rfl fun j _ => by
    by_cases h1 : j < i <;> by_cases h2 : e j = e i <;> simp [h1, h2]]
  rw [← Finset.sum_filter, Finset.sum_const, rank]
  simp
end

/-! ## Folds of bits -/

/-- Two bits whose `and` is one are both one. -/
theorem andi_one {a b : BitVec 1} : IntOp.andi a b = 1#1 ↔ a = 1#1 ∧ b = 1#1 := by revert a b; decide

/-- A fold by `and`, from one, that came out one met only ones. -/
theorem fold_andi {ι : Type} (f : ι → BitVec 1) (S : Finset ι) (h : S.fold IntOp.andi 1#1 f = 1#1) : ∀ k ∈ S, f k = 1#1 := by
  classical
  induction S using Finset.induction_on with
  | empty => exact fun _ hk => absurd hk (Finset.notMem_empty _)
  | insert a S ha ih =>
    rw [Finset.fold_insert ha] at h
    obtain ⟨h1, h2⟩ := andi_one.1 h
    intro k hk
    rcases Finset.mem_insert.1 hk with rfl | hk
    · exact h1
    · exact ih h2 k hk

end Cert.Rank

end
-- ==== Proof.Capacity.lean ====
/-
# 01_k — the precondition, in plain numbers

`capacity` holds of a device's tokens when each names one of the 32 experts and none is named by more than 32: `Fits`.
-/
module

public import proofs.«01_k».proof.Defs
public import proofs.«01_k».proof.Proof.Gen.Pre_capacity_KernelIdeal
public import proofs.«01_k».proof.Proof.Rank
public import Idealize.ShloMosaic.Lib.Pointwise
public import Idealize.ShloMosaic.Lib.IndicatorCount

@[expose] public section

set_option maxRecDepth 16384

noncomputable section

namespace Cert.Capacity

open Idealize.ShloMosaic Cert.Rank

attribute [local instance] Cert.Pre_capacity_KernelIdeal.Gen.facts

/-- The numbers of the experts that a device's tokens name. -/
def experts (a : IVec Cert.Pre_capacity_KernelIdeal.S512x1 32) (i : Fin 512) : ℕ := (a (ix2 i 0)).toNat

/-- The words are these numbers. -/
theorem experts_word (a : IVec Cert.Pre_capacity_KernelIdeal.S512x1 32) (i : Fin 512) : a (ix2 i 0) = BitVec.ofNat 32 (experts a i) := by
  simp [experts]

/-- Where the precondition holds, the tokens fit. -/
theorem fits (x : FVec Ideal Cert.Pre_capacity_KernelIdeal.S512x512 .bf16) (a : IVec Cert.Pre_capacity_KernelIdeal.S512x1 32)
    (u : FVec Ideal Cert.Pre_capacity_KernelIdeal.S2x512x1024 .bf16) (v : FVec Ideal Cert.Pre_capacity_KernelIdeal.S2x1024x512 .bf16)
    (h : Cert.Pre_capacity_KernelIdeal.fn (F := Ideal) x a u v = fun _ => 1#1) : Fits (experts a) := by
  have h0 := congrFun h ix0
  pointwise [Cert.Pre_capacity_KernelIdeal.fn] at h0
  obtain ⟨hr, hc⟩ := andi_one.1 h0
  have hlt : ∀ i : Fin 512, experts a i < 32 := by
    intro i
    obtain ⟨h1, h2⟩ := andi_one.1 (fold_andi _ _ hr (i, 0) (Finset.mem_univ _))
    exact WordArith.toNat_lt_of_zero_sle_of_slt_ofNat _ 32 (by norm_num) ((WordArith.ofBool_eq_one_iff _).1 h1) ((WordArith.ofBool_eq_one_iff _).1 h2)
  refine ⟨hlt, fun l => ?_⟩
  by_cases hl : l < 32
  · have h1 := fold_andi _ _ hc (⟨l, hl⟩ : Fin 32) (Finset.mem_univ _)
    rw [IndicatorCount.fold_addi_setWidth_eq_card] at h1
    have h2 := (WordArith.ofBool_eq_one_iff _).1 h1
    rw [BitVec.sle_eq_decide, decide_eq_true_eq] at h2
    have h3 : (Finset.univ.filter fun j : Fin 512 => IntOp.cmpi .eq (a (ix2 j 0)) (BitVec.ofNat 32 l) = 1#1) = Finset.univ.filter fun j => experts a j = l := by
      refine Finset.filter_congr fun j _ => ?_
      refine (WordArith.ofBool_eq_one_iff _).trans (beq_iff_eq.trans ?_)
      rw [experts_word a j]
      have := hlt j
      refine ⟨fun hb => ?_, fun hb => by rw [hb]⟩
      have := congrArg BitVec.toNat hb
      simp only [BitVec.toNat_ofNat] at this
      omega
    rw [h3] at h2
    have h4 : (Finset.univ.filter fun j => experts a j = l).card ≤ 512 := (Finset.card_le_univ _).trans (by simp)
    rw [WordArith.toInt_ofNat_small _ (by omega)] at h2
    have h5 : (32#32 : BitVec 32).toInt = 32 := by decide
    omega
  · rw [Finset.filter_false_of_mem (fun j _ hj => hl (lt_of_eq_of_lt (Eq.symm hj) (hlt j)))]
    simp
end Cert.Capacity

end
-- ==== Proof.Expert.lean ====
/-
# 01_k — what the kernel computes, over the extended reals

The words and sums that the kernel stores, read at an index: the permutation it makes of a device's tokens, what it sends,
what its experts answer, and the result. `Fits e` (Proof/Rank.lean) says that the tokens' experts fit the slots.
-/
module

public import proofs.«01_k».proof.Proof.KernelIdealLaunch
public import proofs.«01_k».proof.Proof.Rank

@[expose] public section

set_option maxRecDepth 16384

noncomputable section

namespace Cert.KernelIdealProof

open Cert.KernelIdeal Cert.KernelIdeal.Gen Cert.Rank
open Idealize.ShloMosaic
open Idealize.ShloMosaic.TcCoe

/-- One expert's answer to a token `x`: two products with the positive part between them. -/
def mlp (x : Fin 512 → EReal) (w1 : Fin 512 → Fin 1024 → EReal) (w2 : Fin 1024 → Fin 512 → EReal) (k : Fin 512) : EReal :=
  ∑ f : Fin 1024, max (∑ t : Fin 512, x t * w1 t f) 0 * w2 f k

section Permutation
variable (a : Vec Ideal S512x1 .i32) (e : Fin 512 → ℕ)

/-- The one-hot row of token `i`'s expert. -/
theorem hot_at (ha : ∀ i : Fin 512, a (ix2 i 0) = BitVec.ofNat 32 (e i)) (h : Fits e) (i : Fin 512) (l : Fin 128) :
    k0_pay3 (F := Ideal) a (ix2 i l) = if e i = l.val then (1 : EReal) else 0 := by
  pointwise [k0_pay3, k0_pay2]
  rw [ha i]
  have hl := l.isLt
  have he := h.1 i
  have hw := hot_toInt (e i) l.val (by omega) (by omega)
  show (((IntOp.maxsi _ _).toInt : ℝ) : EReal) = _
  rw [hw]
  split_ifs <;> simp

/-- The permutation's row of token `i` is one at its slot and zero elsewhere. -/
theorem perm_at (ha : ∀ i : Fin 512, a (ix2 i 0) = BitVec.ofNat 32 (e i)) (h : Fits e) (i : Fin 512) (s : Fin 1024) :
    k0_pay6 (F := Ideal) (k0_pay2 (F := Ideal) a) (k0_pay3 a) k0_pay4 k0_pay5 (ix2 i s) = if slot e i = s.val then (1 : EReal) else 0 := by
  pointwise [k0_pay6, k0_pay2, k0_pay4, k0_pay5]
  have hr : (∑ l : Fin 128, k0_pay3 (F := Ideal) a (ix2 i l) * ∑ j : Fin 512,
      FloatOps.sitofp (F := Ideal) FTy.bf16 (IntOp.minsi (1#32) (IntOp.maxsi (0#32) (IntOp.subi (BitVec.ofNat 32 i.val) (BitVec.ofNat 32 j.val))))
        * k0_pay3 (F := Ideal) a (ix2 j l)) = ((rank e i : ℝ) : EReal) := by
    rw [← rank_sum h i]
    refine Finset.sum_congr rfl fun l _ => ?_
    rw [hot_at a e ha h i l]
    congr 1
    refine Finset.sum_congr rfl fun j _ => ?_
    rw [hot_at a e ha h j l]
    congr 1
    have hi := i.isLt
    have hj := j.isLt
    have hb := below_toInt i.val j.val (by omega) (by omega)
    show (((IntOp.minsi _ _).toInt : ℝ) : EReal) = _
    rw [hb]
    split_ifs <;> simp
  rw [hr, ha i]
  have hf : FloatOps.fptosi (F := Ideal) (φ := .f32) 32 ((rank e i : ℝ) : EReal) = BitVec.ofNat 32 (rank e i) :=
    fptosi_nat _ (by have := rank_le (e := e) i; omega)
  rw [hf]
  have hs : IntOp.addi (IntOp.muli (BitVec.ofNat 32 (e i)) 32#32) (BitVec.ofNat 32 (rank e i)) = BitVec.ofNat 32 (slot e i) := by
    show BitVec.ofNat 32 (e i) * BitVec.ofNat 32 32 + BitVec.ofNat 32 (rank e i) = BitVec.ofNat 32 (e i * 32 + rank e i)
    rw [BitVec.ofNat_add, BitVec.ofNat_mul]
  rw [hs]
  have h1 := slot_lt h i
  have h2 := s.isLt
  have hw := hot_toInt (slot e i) s.val (by omega) (by omega)
  show (((IntOp.maxsi _ _).toInt : ℝ) : EReal) = _
  rw [hw]
  split_ifs <;> simp

/-- What is sent from the slot of token `i` is that token. -/
theorem send_at (ha : ∀ i : Fin 512, a (ix2 i 0) = BitVec.ofNat 32 (e i)) (h : Fits e) (x : Vec Ideal S512x512 .bf16)
    (i : Fin 512) (d : Fin 16) (r : Fin 64) (hs : d.val * 64 + r.val = slot e i) (t : Fin 512) :
    k0_pay7 (F := Ideal) (k0_pay2 (F := Ideal) a) (k0_pay3 a) k0_pay4 k0_pay5 x (ix3 d r t) = x (ix2 i t) := by
  pointwise [k0_pay7]
  rw [Finset.sum_congr rfl fun j _ => by rw [perm_at a e ha h j]]
  refine sum_hot i (fun j => x (ix2 j t)) (fun j => slot e j = d.val * 64 + r.val) fun j => ⟨fun hj => ?_, fun hj => ?_⟩
  · exact slot_inj h (hj.trans hs)
  · rw [hj]; exact hs.symm

/-- The result's row of token `i` is what came back to its slot. -/
theorem out_at (ha : ∀ i : Fin 512, a (ix2 i 0) = BitVec.ofNat 32 (e i)) (h : Fits e) (y : Vec Ideal S16x64x512 .bf16)
    (i : Fin 512) (d : Fin 16) (r : Fin 64) (hs : d.val * 64 + r.val = slot e i) (k : Fin 512) :
    outV (F := Ideal) a y (ix2 i k) = y (ix3 d r k) := by
  pointwise [outV, k0_pay1]
  rw [Finset.sum_congr rfl fun j _ => by rw [perm_at a e ha h i]]
  have hr := r.isLt
  refine (sum_hot (⟨slot e i, slot_lt h i⟩ : Fin 1024) _ (fun s : Fin 1024 => slot e i = s.val)
    fun s => ⟨fun hj => Fin.ext hj.symm, fun hj => by rw [hj]⟩).trans ?_
  refine congrArg y ?_
  have h1 : slot e i / 64 = d.val := by omega
  have h2 : slot e i % 64 = r.val := by omega
  exact congrArg₂ (fun p q => ix3 p q k) (Fin.ext h1) (Fin.ext h2)
end Permutation

/-! ## The experts -/

section Experts
variable (y : Vec Ideal S16x64x512 .bf16) (u : S2x512x1024.Idx → Elt Ideal .bf16) (v : S2x1024x512.Idx → Elt Ideal .bf16)

omit y v in
/-- The blocks of the weights that are loaded, read at an index: of expert 0 (`a`) and of expert 1 (`b`). -/
theorem w1a_at (t : Fin 512) (f : Fin 1024) : w1a (F := Ideal) u (ix3 0 t f) = u (ix3 0 t f) := by
  refine congrArg u (funext fun b => Fin.ext ?_)
  fin_cases b <;> simp [ix3, Rect.unit]
omit y v in
theorem w1b_at (t : Fin 512) (f : Fin 1024) : w1b (F := Ideal) u (ix3 0 t f) = u (ix3 1 t f) := by
  refine congrArg u (funext fun b => Fin.ext ?_)
  fin_cases b <;> simp [ix3, Rect.unit]
omit y u in
theorem w2a_at (f : Fin 1024) (k : Fin 512) : w2a (F := Ideal) v (ix3 0 f k) = v (ix3 0 f k) := by
  refine congrArg v (funext fun b => Fin.ext ?_)
  fin_cases b <;> simp [ix3, Rect.unit]
omit y u in
theorem w2b_at (f : Fin 1024) (k : Fin 512) : w2b (F := Ideal) v (ix3 0 f k) = v (ix3 1 f k) := by
  refine congrArg v (funext fun b => Fin.ext ?_)
  fin_cases b <;> simp [ix3, Rect.unit]

/-- Row `r` of the slot of device `c` is answered by expert `r / 32` of the two. -/
theorem answer_at (c : Fin 16) (r : Fin 64) (k : Fin 512) :
    k0_pay10 (F := Ideal) (k0_pay8 y (w1a (F := Ideal) u) (w2a (F := Ideal) v)) (k0_pay9 y) (w1b (F := Ideal) u) (w2b (F := Ideal) v) (ix3 c r k)
      = mlp (fun t => y (ix3 c r t)) (fun t f => u (ix3 (⟨r.val / 32, by omega⟩ : Fin 2) t f)) (fun f k => v (ix3 (⟨r.val / 32, by omega⟩ : Fin 2) f k)) k := by
  have hr := r.isLt
  pointwise [k0_pay10, k0_pay8, k0_pay9, mlp]
  simp only [w1a_at, w1b_at, w2a_at, w2b_at]
  split_ifs with h
  · have h1 : (⟨r.val / 32, by omega⟩ : Fin 2) = 0 := Fin.ext (by simp; omega)
    simp only [h1]
    refine Finset.sum_congr rfl fun f _ => ?_
    refine congrArg (fun q => max q 0 * _) (Finset.sum_congr rfl fun t _ => ?_)
    refine congrArg (· * _) (congrArg y ?_)
    exact congrArg₂ (fun p q => ix3 p q t) (Fin.ext (by simp; omega)) (Fin.ext (by simp; omega))
  · have h1 : (⟨r.val / 32, by omega⟩ : Fin 2) = 1 := Fin.ext (by simp; omega)
    simp only [h1]
    refine Finset.sum_congr rfl fun f _ => ?_
    refine congrArg (fun q => max q 0 * _) (Finset.sum_congr rfl fun t _ => ?_)
    refine congrArg (· * _) (congrArg y ?_)
    exact congrArg (fun q => ix3 c q t) (Fin.ext (by simp; omega))
end Experts

/-! ## A device's result -/

section Result
variable (m : (ℓ : Loc nD τ sig) → Buf (Elt Ideal) ℓ) (ρ : Dev nD → PrngReg)

/-- The staged blocks are the whole arguments: tokens, assignment, weights of the first and of the second product. -/
theorem xIn_eq (c : Dev nD) : xIn m c = m ((c : Thread nD τ).loc main_arg0) :=
  Memref.read_access_unit_zero (Elt Ideal) main_arg0 (funext fun a => by fin_cases a <;> decide) (fun a => by fin_cases a <;> decide) _
theorem aIn_eq (c : Dev nD) : aIn m c = m ((c : Thread nD τ).loc main_arg1) :=
  Memref.read_access_unit_zero (Elt Ideal) main_arg1 (funext fun a => by fin_cases a <;> decide) (fun a => by fin_cases a <;> decide) _
theorem uIn_eq (c : Dev nD) : uIn m c = m ((c : Thread nD τ).loc main_arg2) :=
  Memref.read_access_unit_zero (Elt Ideal) main_arg2 (funext fun a => by fin_cases a <;> decide) (fun a => by fin_cases a <;> decide) _
theorem vIn_eq (c : Dev nD) : vIn m c = m ((c : Thread nD τ).loc main_arg3) :=
  Memref.read_access_unit_zero (Elt Ideal) main_arg3 (funext fun a => by fin_cases a <;> decide) (fun a => by fin_cases a <;> decide) _

/-- The result array ends as what the body left in its staging buffer. -/
theorem finalA_out (c : Dev nD) : finalA m ρ c (4 : Fin 5) = outAt m c := by
  have h : (win0_4.blk t0_0).view.read (Elt Ideal) (finalA m ρ c (4 : Fin 5)) = outAt m c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  rw [← h]
  exact (Memref.read_access_unit_zero (Elt Ideal) main_v1 (funext fun a => by fin_cases a <;> decide) (fun a => by fin_cases a <;> decide) _).symm

variable (e : Dev nD → Fin 512 → ℕ)

/-- Row `i` of the result of device `c` is the answer of the token's expert, number `w` of the two that device `d` holds. -/
theorem result_at (ha : ∀ (c : Dev nD) (i : Fin 512), m ((c : Thread nD τ).loc main_arg1) (ix2 i 0) = BitVec.ofNat 32 (e c i)) (h : ∀ c, Fits (e c))
    (c : Dev nD) (i k : Fin 512) (d : Dev nD) (w : Fin 2) (hd : d.val * 2 + w.val = e c i) :
    finalA m ρ c (4 : Fin 5) (ix2 i k)
      = mlp (fun t => m ((c : Thread nD τ).loc main_arg0) (ix2 i t)) (fun t f => m ((d : Thread nD τ).loc main_arg2) (ix3 w t f))
          (fun f k => m ((d : Thread nD τ).loc main_arg3) (ix3 w f k)) k := by
  have h1 := slot_lt (h c) i
  have h2 := slot_div (h c) i
  have hw := w.isLt
  have hs : d.val * 64 + slot (e c) i % 64 = slot (e c) i := by omega
  have hwv : (⟨slot (e c) i % 64 / 32, by omega⟩ : Fin 2) = w := Fin.ext (by simp; omega)
  rw [finalA_out, outAt]
  rw [out_at (aIn m c) (e c) (fun i => by rw [aIn_eq]; exact ha c i) (h c) _ i d (⟨slot (e c) i % 64, by omega⟩ : Fin 64) hs k]
  show sent1 m d (ix3 c (⟨slot (e c) i % 64, by omega⟩ : Fin 64) k) = _
  unfold sent1
  rw [answer_at, hwv, uIn_eq, vIn_eq]
  refine congrArg (fun x => mlp x _ _ k) (funext fun t => ?_)
  show sent0 m c (ix3 d (⟨slot (e c) i % 64, by omega⟩ : Fin 64) t) = _
  unfold sent0
  rw [send_at (aIn m c) (e c) (fun i => by rw [aIn_eq]; exact ha c i) (h c) _ i d (⟨slot (e c) i % 64, by omega⟩ : Fin 64) hs t, xIn_eq]
end Result

end Cert.KernelIdealProof

end
-- ==== Proof.Reference.lean ====
/-
# 01_k — what the reference computes, over the extended reals

The reference's result at a row and a column: the sum over the 32 experts has one term that is not zero, of the row's expert.
-/
module

public import proofs.«01_k».proof.Proof.Gen.ReferenceIdeal.Run
public import proofs.«01_k».proof.Proof.Expert

@[expose] public section

set_option maxRecDepth 16384

noncomputable section

namespace Cert.ReferenceIdealProof

open Cert.ReferenceIdeal Cert.ReferenceIdeal.Gen
open Idealize.ShloMosaic
open Idealize.ShloMosaic.TcCoe

/-- The reference's result, of its four arguments. -/
def whole (x : FVec Ideal S8192x512 .bf16) (a : IVec S8192x1 32) (u : FVec Ideal S32x512x1024 .bf16) (v : FVec Ideal S32x1024x512 .bf16) :
    FVec Ideal S8192x512 .f32 :=
  Host.reduceAdd (select (broadcastInDim S32x8192x512 ![0, 1, 2] bcast_S32x8192x1_S32x8192x512_0_1_2 (cmpi .eq (broadcastInDim S32x8192x1 ![0, 1, 2] bcast_S1x8192x1_S32x8192x1_0_1_2 (shapeCast _ a shapeCasts_S8192x1_S1x8192x1)) (broadcastInDim S32x8192x1 ![0, 1, 2] bcast_S32x1x1_S32x8192x1_0_1_2 (shapeCast _ (iotaInDim S32 32 0) shapeCasts_S32_S32x1x1)))) (Host.dotGeneral dot_S32x8192x1024_S32x1024x512_S32x8192x512_2_1_1_2_0_0 none (truncf .bf16 (maximumf (transpose S32x8192x1024 [0, 2, 1] (Host.dotGeneral dot_S32x512x1024_S8192x512_S32x1024x8192_1_1_02_0_n_n none u x) transposes_S32x1024x8192_S32x8192x1024_0_2_1) (broadcastInDim S32x8192x1024 ![] bcast_S_S32x8192x1024 (constant S_ .f32 0x00000000#32))) bitsLt_bf16_f32) v) (broadcastInDim S32x8192x512 ![] bcast_S_S32x8192x512 (id (constant S_ .f32 0x00000000#32)))) (constant S_ .f32 0x00000000#32) reducesTo_S32x8192x512_S8192x512_d0 h_S_

/-- A row whose token names expert `e` is that expert's answer. -/
theorem whole_at (x : FVec Ideal S8192x512 .bf16) (a : IVec S8192x1 32) (u : FVec Ideal S32x512x1024 .bf16) (v : FVec Ideal S32x1024x512 .bf16)
    (i : Fin 8192) (k : Fin 512) (e : Fin 32) (he : a (ix2 i 0) = BitVec.ofNat 32 e.val) :
    whole x a u v (ix2 i k) = Cert.KernelIdealProof.mlp (fun t => x (ix2 i t)) (fun t f => u (ix3 e t f)) (fun f k => v (ix3 e f k)) k := by
  pointwise [whole, Cert.KernelIdealProof.mlp]
  have hz : (id (constant (F := Ideal) S_ FTy.f32 0x00000000#32) ix0 : EReal) = 0 := by
    rw [id]
    pointwise []
  rw [Finset.sum_eq_single e]
  · have h1 : IntOp.cmpi CmpIPredicate.eq (BitVec.ofNat 32 e.val) (BitVec.ofNat 32 e.val) = 1 := (WordArith.ofBool_eq_one_iff _).2 (beq_self_eq_true _)
    rw [he, Scalar.select, if_pos h1]
    refine Finset.sum_congr rfl fun f _ => ?_
    refine congrArg (fun q => max q 0 * _) (Finset.sum_congr rfl fun t _ => ?_)
    exact mul_comm _ _
  · intro l _ hl
    rw [he, Scalar.select, if_neg, hz]
    intro h1
    refine hl (Fin.ext ?_)
    have h2 := congrArg BitVec.toNat (beq_iff_eq.1 ((WordArith.ofBool_eq_one_iff _).1 h1))
    have h3 := e.isLt
    have h4 := l.isLt
    simp only [BitVec.toNat_ofNat] at h2
    omega
  · intro h1
    exact absurd (Finset.mem_univ _) h1

end Cert.ReferenceIdealProof

end
-- ==== Proof.Algebraic.lean ====
/-
# 01_k — the kernel's result is the reference's

Block `c` of the reference's result, at a row and a column, is the answer of the row's expert; so is the result of device `c`,
which asked the device that holds that expert.
-/
module

public import proofs.«01_k».proof.Defs
public import proofs.«01_k».proof.Proof.Capacity
public import proofs.«01_k».proof.Proof.Expert
public import proofs.«01_k».proof.Proof.Reference
public import Idealize.ShloMosaic.Lib.LayoutAt

@[expose] public section

set_option maxRecDepth 16384

noncomputable section

namespace Cert.AlgebraicProof

open Idealize.ShloMosaic Idealize.ShloMosaic.TcCoe Idealize.SL.Sem

/-- Block `c` of the reference's result is what device `c` of the kernel ends with. -/
theorem result_block (m : (ℓ : Loc Cert.KernelIdeal.nD Cert.KernelIdeal.τ Cert.KernelIdeal.sig) → Buf (Elt Ideal) ℓ) (g : Dev Cert.KernelIdeal.nD → PrngReg)
    (x : FVec Ideal Cert.ReferenceIdeal.S8192x512 .bf16) (a : IVec Cert.ReferenceIdeal.S8192x1 32)
    (u : FVec Ideal Cert.ReferenceIdeal.S32x512x1024 .bf16) (v : FVec Ideal Cert.ReferenceIdeal.S32x1024x512 .bf16)
    (hp : Cert.Pre_KernelIdeal_capacity_KernelIdeal (hPre_capacity_KernelIdeal := Cert.Pre_capacity_KernelIdeal.Gen.facts) m)
    (hx : ∀ c : Dev Cert.KernelIdeal.nD, m ((c : Thread Cert.KernelIdeal.nD Cert.KernelIdeal.τ).loc Cert.KernelIdeal.main_arg0) = Layout.block ⟨2, ![512, 512]⟩ ⟨2, ![8192, 512]⟩ 0 16 c x)
    (ha : ∀ c : Dev Cert.KernelIdeal.nD, m ((c : Thread Cert.KernelIdeal.nD Cert.KernelIdeal.τ).loc Cert.KernelIdeal.main_arg1) = Layout.block ⟨2, ![512, 1]⟩ ⟨2, ![8192, 1]⟩ 0 16 c a)
    (hu : ∀ c : Dev Cert.KernelIdeal.nD, m ((c : Thread Cert.KernelIdeal.nD Cert.KernelIdeal.τ).loc Cert.KernelIdeal.main_arg2) = Layout.block ⟨3, ![2, 512, 1024]⟩ ⟨3, ![32, 512, 1024]⟩ 0 16 c u)
    (hv : ∀ c : Dev Cert.KernelIdeal.nD, m ((c : Thread Cert.KernelIdeal.nD Cert.KernelIdeal.τ).loc Cert.KernelIdeal.main_arg3) = Layout.block ⟨3, ![2, 1024, 512]⟩ ⟨3, ![32, 1024, 512]⟩ 0 16 c v)
    (c : Dev Cert.KernelIdeal.nD) :
    Cert.KernelIdealProof.finalA m g c (4 : Fin 5)
      = Layout.block ⟨2, ![512, 512]⟩ ⟨2, ![8192, 512]⟩ 0 16 c (Cert.ReferenceIdealProof.whole x a u v) := by
  have hf : ∀ c : Dev Cert.KernelIdeal.nD, Cert.Rank.Fits (Cert.Capacity.experts (m ((c : Thread Cert.KernelIdeal.nD Cert.KernelIdeal.τ).loc Cert.KernelIdeal.main_arg1))) :=
    fun c => Cert.Capacity.fits _ _ _ _ (hp c)
  funext j
  idx_vars j
  revert j0 j1
  intro i k
  have hi := i.isLt
  have hc : c.val < 16 := c.isLt
  have he := (hf c).1 i
  obtain ⟨n, hn⟩ : ∃ n, n = Cert.Capacity.experts (m ((c : Thread Cert.KernelIdeal.nD Cert.KernelIdeal.τ).loc Cert.KernelIdeal.main_arg1)) i := ⟨_, rfl⟩
  have hw := Cert.Capacity.experts_word (m ((c : Thread Cert.KernelIdeal.nD Cert.KernelIdeal.τ).loc Cert.KernelIdeal.main_arg1)) i
  rw [← hn] at he hw
  rw [Cert.KernelIdealProof.result_at m g (fun c => Cert.Capacity.experts (m ((c : Thread Cert.KernelIdeal.nD Cert.KernelIdeal.τ).loc Cert.KernelIdeal.main_arg1)))
    (fun c i => Cert.Capacity.experts_word _ i) hf c i k (⟨n / 2, by show n / 2 < 16; omega⟩ : Fin 16) (⟨n % 2, by omega⟩ : Fin 2) (by rw [← hn]; show n / 2 * 2 + n % 2 = n; omega)]
  rw [Layout.block_apply]
  have hrow : Layout.Tiles.idx (S := ⟨2, ![512, 512]⟩) (T := ⟨2, ![8192, 512]⟩) (a := 0) (k := 16) (by decide) c (ix2 i k) = ix2 (⟨c.val * 512 + i.val, by omega⟩ : Fin 8192) k := by
    shard_ext
  rw [hrow]
  rw [Cert.ReferenceIdealProof.whole_at x a u v _ k (⟨n, he⟩ : Fin 32)]
  · simp only [hx, hu, hv, Layout.block_apply]
    have h1 : ∀ t : Fin 512, Layout.Tiles.idx (S := ⟨2, ![512, 512]⟩) (T := ⟨2, ![8192, 512]⟩) (a := 0) (k := 16) (by decide) c (ix2 i t) = ix2 (⟨c.val * 512 + i.val, by omega⟩ : Fin 8192) t := by
      intro t
      shard_ext
    have h2 : ∀ (t : Fin 512) (f : Fin 1024), Layout.Tiles.idx (S := ⟨3, ![2, 512, 1024]⟩) (T := ⟨3, ![32, 512, 1024]⟩) (a := 0) (k := 16) (by decide) (⟨n / 2, by omega⟩ : Fin 16) (ix3 (⟨n % 2, by omega⟩ : Fin 2) t f) = ix3 (⟨n, he⟩ : Fin 32) t f := by
      intro t f
      shard_ext
    have h3 : ∀ (f : Fin 1024) (k : Fin 512), Layout.Tiles.idx (S := ⟨3, ![2, 1024, 512]⟩) (T := ⟨3, ![32, 1024, 512]⟩) (a := 0) (k := 16) (by decide) (⟨n / 2, by omega⟩ : Fin 16) (ix3 (⟨n % 2, by omega⟩ : Fin 2) f k) = ix3 (⟨n, he⟩ : Fin 32) f k := by
      intro f k
      shard_ext
    exact congrFun (congr (congrArg₂ Cert.KernelIdealProof.mlp (funext fun t => congrArg x (h1 t)) (funext fun t => funext fun f => congrArg u (h2 t f)))
      (funext fun f => funext fun k => congrArg v (h3 f k))) k
  · rw [← hw, ha c, Layout.block_apply]
    refine congrArg a ?_
    shard_ext

/-- The two programs compute the same. -/
theorem algebraic : Cert.algebraic_KernelIdeal_ReferenceIdeal_pre_capacity_KernelIdeal (hKernelIdeal := Cert.KernelIdeal.Gen.facts)
    (hReferenceIdeal := Cert.ReferenceIdeal.Gen.facts) (hPre_capacity_KernelIdeal := Cert.Pre_capacity_KernelIdeal.Gen.facts) := by
  intro m g m' g' hp hm
  refine ⟨_, (θ_run Cert.KernelIdeal.defs _ _).mono (fun r h c => ⟨(h.1 c).1.trans ?_, (h.1 c).2⟩) (Cert.KernelIdealProof.run_args (F := Ideal) m g),
    (θ_run Cert.ReferenceIdeal.defs _ _).mono (fun r h => h 0) (Cert.ReferenceIdeal.Value.run (F := Ideal) m' g')⟩
  exact result_block m g _ _ _ _ hp (fun c => (hm c).1) (fun c => (hm c).2.1) (fun c => (hm c).2.2.1) (fun c => (hm c).2.2.2) c

end Cert.AlgebraicProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_capacity_KernelIdeal
public import proofs.«01_k».proof.Proof.Gen.Pre_capacity_ReferenceIdeal
public import proofs.«01_k».proof.Proof.KernelLaunch
public import proofs.«01_k».proof.Proof.KernelIdealLaunch
public import proofs.«01_k».proof.Proof.Algebraic
public import Idealize.ShloMosaic.Adequacy
public import Idealize.ShloMosaic.Init

@[expose] public section

noncomputable section

namespace Cert.Proof

open Idealize.ShloMosaic Idealize.ShloMosaic.TcCoe Idealize.SL.Sem

theorem quiescent_Kernel : Cert.quiescent_Kernel (hKernel := Cert.Kernel.Gen.facts) :=
  fun m g _ => Cert.KernelProof.run_frame (F := Bits) m g

theorem quiescent_KernelIdeal : Cert.quiescent_KernelIdeal (hKernelIdeal := Cert.KernelIdeal.Gen.facts) :=
  fun m g _ => Cert.KernelIdealProof.run_frame (F := Ideal) m g

theorem quiescent_KernelIdeal_pre : Cert.quiescent_KernelIdeal_pre_capacity_KernelIdeal (hKernelIdeal := Cert.KernelIdeal.Gen.facts)
    (hPre_capacity_KernelIdeal := Cert.Pre_capacity_KernelIdeal.Gen.facts) :=
  fun m g _ => quiescent_KernelIdeal m g trivial

theorem quiescent_ReferenceIdeal : Cert.quiescent_ReferenceIdeal (hReferenceIdeal := Cert.ReferenceIdeal.Gen.facts) :=
  fun m g _ => (θ_run Cert.ReferenceIdeal.defs _ _).mono (fun r h => ⟨fun c => (h c).2, sem_eq_zero_of_no_sems (by decide) r.2⟩)
    (Cert.ReferenceIdeal.Value.run (F := Ideal) m g)

theorem quiescent_ReferenceIdeal_pre : Cert.quiescent_ReferenceIdeal_pre_capacity_ReferenceIdeal
    (hReferenceIdeal := Cert.ReferenceIdeal.Gen.facts) (hPre_capacity_ReferenceIdeal := Cert.Pre_capacity_ReferenceIdeal.Gen.facts) :=
  fun m g _ => quiescent_ReferenceIdeal m g trivial

theorem claim : Cert.Claim := ⟨Cert.Kernel.Gen.facts, Cert.KernelIdeal.Gen.facts, Cert.ReferenceIdeal.Gen.facts, Cert.Pre_capacity_KernelIdeal.Gen.facts, Cert.Pre_capacity_ReferenceIdeal.Gen.facts,
  quiescent_Kernel, quiescent_KernelIdeal, quiescent_KernelIdeal_pre, quiescent_ReferenceIdeal, quiescent_ReferenceIdeal_pre, trivial,
  Cert.AlgebraicProof.algebraic⟩

end Cert.Proof

end
